-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![64, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![64, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2x1024x2048 : Shape := ⟨3, ![2, 1024, 2048]⟩
abbrev S2x2048x1024 : Shape := ⟨3, ![2, 2048, 1024]⟩
abbrev S3x2x64x2048 : Shape := ⟨4, ![3, 2, 64, 2048]⟩
abbrev S3 : Shape := ⟨1, ![3]⟩
abbrev S3x2 : Shape := ⟨2, ![3, 2]⟩
abbrev S1 : Shape := ⟨1, ![1]⟩
abbrev S_ : Shape := ⟨0, ![]⟩
abbrev S1x1024x2048 : Shape := ⟨3, ![1, 1024, 2048]⟩
abbrev S1x2048x1024 : Shape := ⟨3, ![1, 2048, 1024]⟩
abbrev S64x2048 : Shape := ⟨2, ![64, 2048]⟩
abbrev S1x1x64x2048 : Shape := ⟨4, ![1, 1, 64, 2048]⟩
abbrev S1x1 : Shape := ⟨2, ![1, 1]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S2x1024x2048, .f32⟩
  | .local _ .vmem, ⟨3, _⟩ => ⟨S2x2048x1024, .f32⟩
  | .local _ .vmem, ⟨4, _⟩ => ⟨S1024x2048, .bf16⟩
  | .local _ .vmem, ⟨5, _⟩ => ⟨S2048x1024, .bf16⟩
  | .local _ .vmem, ⟨6, _⟩ => ⟨S3x2x64x2048, .bf16⟩
  | .local _ .vmem, ⟨7, _⟩ => ⟨S3x2x64x2048, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_9 : BitVec 32 := 1#32
  let v14 : BitVec 32 := Scalar.muli v3 c1_i32_9
  let v15 : BitVec 32 := Scalar.addi c0_i32_10 v14
  v15.toNat
def k0_dev2 (d0 : Dev nD) : Nat :=
  let c0_i32_13 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_12 : BitVec 32 := 1#32
  let v16 : BitVec 32 := Scalar.muli v4 c1_i32_12
  let v17 : BitVec 32 := Scalar.addi c0_i32_13 v16
  v17.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_42 : BitVec 32 := 1#32
  let v41 : BitVec 32 := Scalar.muli v3 c1_i32_42
  let v42 : BitVec 32 := Scalar.addi c0_i32_43 v41
  v42.toNat
def k0_dev4 (d0 : Dev nD) : Nat :=
  let c0_i32_108 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_107 : BitVec 32 := 1#32
  let v90 : BitVec 32 := Scalar.muli v4 c1_i32_107
  let v91 : BitVec 32 := Scalar.addi c0_i32_108 v90
  v91.toNat
def k0_dev5 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_180 : BitVec 32 := 1#32
  let v147 : BitVec 32 := Scalar.muli v3 c1_i32_180
  let v148 : BitVec 32 := Scalar.addi c0_i32_181 v147
  v148.toNat
def k0_dev6 (d0 : Dev nD) : Nat :=
  let c0_i32_247 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_246 : BitVec 32 := 1#32
  let v196 : BitVec 32 := Scalar.muli v4 c1_i32_246
  let v197 : BitVec 32 := Scalar.addi c0_i32_247 v196
  v197.toNat
def k0_dev7 (d0 : Dev nD) : Nat :=
  let c0_i32_315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_314 : BitVec 32 := 1#32
  let v249 : BitVec 32 := Scalar.muli v3 c1_i32_314
  let v250 : BitVec 32 := Scalar.addi c0_i32_315 v249
  v250.toNat
def k0_dev8 (d0 : Dev nD) : Nat :=
  let c0_i32_377 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_376 : BitVec 32 := 1#32
  let v294 : BitVec 32 := Scalar.muli v4 c1_i32_376
  let v295 : BitVec 32 := Scalar.addi c0_i32_377 v294
  v295.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x4096 : Shape := ⟨2, ![64, 4096]⟩
abbrev S4096x2048 : Shape := ⟨2, ![4096, 2048]⟩
abbrev S2048x4096 : Shape := ⟨2, ![2048, 4096]⟩
abbrev S64x2048 : Shape := ⟨2, ![64, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S64x4096, .f32⟩
  | .hbm, ⟨12, _⟩ => ⟨S64x2048, .f32⟩
  | .hbm, ⟨13, _⟩ => ⟨S_, .f32⟩
  | .hbm, ⟨14, _⟩ => ⟨S64x2048, .f32⟩
  | .hbm, ⟨15, _⟩ => ⟨S64x2048, .f32⟩
  | .hbm, ⟨16, _⟩ => ⟨S64x4096, .f32⟩
  | .hbm, ⟨17, _⟩ => ⟨S64x2048, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Steps.lean ====
/-
# Memory steps stated over owned slices

The kernel touches its buffers through rectangles: a load or a store at a rectangle, a transfer into the rectangle
with its axes of size one dropped. Each step below is stated over `owns`: the rectangle of a memref held at the
values read through it. Nothing here mentions one kernel; the statements are for any signature.
-/
module

public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type} {U : Type} [URA U]

local notation "𝕄" => MT nD τ sig Unit Val ℕ U ℕ

/-- What thread `c` owes, whatever waits it has consumed. -/
def owing (c : Thread nD τ) (O : CellTallies nD τ sig Unit) : sProp 𝕄 := iprop(∃ W, owes c O W)

/-- A memref held in full at some values. -/
def ownsAny (c : Thread nD τ) {sp : Space} {s : Shape} {e : EltTy} (m : Memref sig c.2.kind sp s e) : sProp 𝕄 :=
  iprop(∃ X, owns c m fullShare X)

instance ownsAny_storable (c : Thread nD τ) {sp : Space} {s : Shape} {e : EltTy} (m : Memref sig c.2.kind sp s e) :
    BI.Storable (upEmb : UEmb _ 𝕄) (ownsAny c m) := by unfold ownsAny; infer_instance

/-- Held at known values is held at some. -/
theorem ownsAny_of (c : Thread nD τ) {sp : Space} {s : Shape} {e : EltTy} (m : Memref sig c.2.kind sp s e) (X : s.Idx → Val e) :
    (owns c m fullShare X : sProp 𝕄) ⊢ ownsAny c m := by
  unfold ownsAny; iintro H; iexists X; iexact H

/-- The values of a shape laid out at another of the same number of elements, row-major. -/
def relaid {s s' : Shape} {α : Type} (h : s'.numel = s.numel) (X : s'.Idx → α) : s.Idx → α :=
  fun i => X ((Shape.reshapeEquiv h).symm i)

/-- Holding a squeezed memref at `X` is holding the memref at `X` relaid. -/
theorem owns_squeeze (c : Thread nD τ) {sp : Space} {s s' : Shape} {e : EltTy} (m : Memref sig c.2.kind sp s e)
    (h : s.Squeezes s') (q : PosShare TreeShare) (X : s'.Idx → Val e) :
    (owns c (m.squeeze s' h) q X : sProp 𝕄) = owns c m q (relaid h.numel_eq X) := by
  unfold owns
  refine congrArg _ (funext fun f => ?_)
  have hp : ((m.squeeze s' h).view.read Val f = X) = (m.view.read Val f = relaid h.numel_eq X) := by
    refine propext ⟨fun hf => ?_, fun hf => ?_⟩
    · subst hf
      funext i
      show _ = m.view.read Val f (Shape.reshapeEquiv h.numel_eq ((Shape.reshapeEquiv h.numel_eq).symm i))
      rw [Equiv.apply_symm_apply]
    · funext i
      show m.view.read Val f (Shape.reshapeEquiv h.numel_eq i) = X i
      rw [hf]
      show X ((Shape.reshapeEquiv h.numel_eq).symm (Shape.reshapeEquiv h.numel_eq i)) = X i
      rw [Equiv.symm_apply_apply]
  have hs : (m.squeeze s' h).view.set = m.view.set := View.set_reshape _ _
  show iprop(⌜(m.squeeze s' h).view.read Val f = X⌝ ∗ (m.view.loc c ↦[(m.squeeze s' h).view.set]{q} f)) = _
  rw [hs, hp]

section Wp

variable {Λ : Labels} {defs : Defs nD τ sig Val Λ} (𝒱 : Variants) (c : Thread nD τ) (bd : Option 𝒱.V)
variable {α : Type} {Q : α → sProp (MT nD τ sig Unit Val ℕ U ℕ)} {sp sp' : Space} {s s' : Shape} {e : EltTy}

/-- A load at a rectangle held at `X` reads `X`. -/
theorem wp_load_owns {cs : CoreSpace} {m : Memref sig c.2.kind cs s e} {r : Rect s} (hr : ∀ a, r.stride a = 1) {hl : m.view.LoadsAt r}
    {k : (r.shape.Idx → Val e) → Prog (TpuEff nD τ sig Val Λ c.2) α} (q : PosShare TreeShare) (X : r.shape.Idx → Val e) :
    (owns c (m.slice r hr) q X : sProp 𝕄)
      ⊢ iprop((owns c (m.slice r hr) q X -∗ wp frame (wpE defs 𝒱 c bd) Set.univ (k X) Q)
        -∗ wp frame (wpE defs 𝒱 c bd) Set.univ (.op (.load m r hl) k) Q) := by
  iintro H Hk
  unfold owns
  icases H with ⟨%f, %hf, H⟩
  subst hf
  iapply (wp_load_rect 𝒱 c bd Set.univ (m := m) (r := r) (S := (m.slice r hr).view.set) (f := f) subset_rfl) $$ H
  iintro H
  iapply Hk
  iexists f
  isplitr; · ipureintro; rfl
  iexact H

/-- A load at a rectangle held at anything. -/
theorem wp_load_any {cs : CoreSpace} {m : Memref sig c.2.kind cs s e} {r : Rect s} (hr : ∀ a, r.stride a = 1) {hl : m.view.LoadsAt r}
    {k : (r.shape.Idx → Val e) → Prog (TpuEff nD τ sig Val Λ c.2) α} :
    (ownsAny c (m.slice r hr) : sProp 𝕄)
      ⊢ iprop((∀ X, ownsAny c (m.slice r hr) -∗ wp frame (wpE defs 𝒱 c bd) Set.univ (k X) Q)
        -∗ wp frame (wpE defs 𝒱 c bd) Set.univ (.op (.load m r hl) k) Q) := by
  iintro H Hk
  unfold ownsAny
  icases H with ⟨%X, H⟩
  iapply (wp_load_owns 𝒱 c bd hr fullShare X) $$ H
  iintro H
  iapply Hk
  iexists X; iexact H

/-- A store of `w` at a rectangle held at anything leaves it held at `w`. -/
theorem wp_store_owns {cs : CoreSpace} {m : Memref sig c.2.kind cs s e} {r : Rect s} (hr : ∀ a, r.stride a = 1) {w : r.shape.Idx → Val e}
    {hx : (m.access r).Stores Finset.univ} {hm : (Finset.univ : Finset r.shape.Idx) = Finset.univ ∨ ∀ a, r.stride a = 1}
    {k : PUnit → Prog (TpuEff nD τ sig Val Λ c.2) α} :
    (ownsAny c (m.slice r hr) : sProp 𝕄)
      ⊢ iprop((owns c (m.slice r hr) fullShare w -∗ wp frame (wpE defs 𝒱 c bd) Set.univ (k ⟨⟩) Q)
        -∗ wp frame (wpE defs 𝒱 c bd) Set.univ (.op (.store m r w Finset.univ hx hm) k) Q) := by
  iintro H Hk
  unfold ownsAny owns
  icases H with ⟨%X, %f, %hf, H⟩
  iapply (wp_store 𝒱 c bd Set.univ (m := m) (r := r) (Mk := Finset.univ) (S := (m.slice r hr).view.set) (f := f) subset_rfl) $$ H
  iintro H
  iapply Hk
  iexists _
  isplitr
  rotate_left
  · iexact H
  · ipureintro; exact View.read_write_univ _ _

/-- A core's own transfer of a memref held at `X` into a squeezed rectangle held at anything, completing on a
    semaphore it holds at zero: in flight, to deliver the rectangle at `X` relaid and the source back. -/
theorem wp_fetch (EC : UEmb Counters 𝕄) [EC.LandsIn (upEmb : UEmb _ 𝕄)] {sd : Shape}
    {src : Memref sig c.2.kind sp s' e} {m : Memref sig c.2.kind sp' sd e} {r : Rect sd} (hr : ∀ a, r.stride a = 1)
    {hsq : r.shape.Squeezes s'} {sm : DmaSem sig}
    {hsrc : src.view.WordExact} {hdst : ((m.slice r hr).squeeze s' hsq).view.WordExact}
    {hsem : DmaTarget.Typed (nD := nD) sp (.dma sm) (.here ((m.slice r hr).squeeze s' hsq))}
    {k : PUnit → Prog (TpuEff nD τ sig Val Λ c.2) α} (N : ℕ) (hN : ((m.slice r hr).squeeze s' hsq).view.dmaCredit = N) (hN0 : 0 < N)
    (q : PosShare TreeShare) (X : s'.Idx → Val e) :
    iprop(owns c src q X ∗ ownsAny c (m.slice r hr) ∗ semVal (c, .dma sm) 0)
      ⊢ iprop((Flight EC c (.dma sm) () N iprop(owns c (m.slice r hr) fullShare (relaid hsq.numel_eq X) ∗ owns c src q X)
              -∗ wp frame (wpE defs 𝒱 c bd) Set.univ (k ⟨⟩) Q)
          -∗ wp frame (wpE defs 𝒱 c bd) Set.univ
              (.op (.enqueueDma src (.here ((m.slice r hr).squeeze s' hsq)) (.dma sm) hsrc hdst hsem) k) Q) := by
  iintro ⟨Hs, Hd, Hv⟩ Hk
  rw [← owns_squeeze]
  unfold ownsAny
  icases Hd with ⟨%Y, Hd⟩
  unfold owns
  icases Hs with ⟨%fs, %hfs, Hs⟩
  icases Hd with ⟨%fd, %hfd, Hd⟩
  subst hfs
  have hset : ((m.slice r hr).squeeze s' hsq).view.set = (m.slice r hr).view.set := View.set_reshape _ _
  iapply (Transfers.wp_dmaLocal EC 𝒱 c bd (src := src) (via := ReadAs.same) (dst := (m.slice r hr).squeeze s' hsq) (sm := .dma sm)
    (Sd := ((m.slice r hr).squeeze s' hsq).view.set) (fd := fd) () N hN hN0 subset_rfl) $$ [Hs Hd Hv]
  · isplitl [Hs]; · iexact Hs
    isplitl [Hd]
    · rw [hset]; iexact Hd
    iexact Hv
  iintro HF
  iapply Hk
  iapply (Transfers.Flight_mono EC c ?_) $$ HF
  iintro ⟨Hd, Hs⟩
  isplitl [Hd]
  · iexists _
    isplitr
    rotate_left
    · iexact Hd
    · ipureintro; exact View.read_write_univ _ _
  · iexists fs
    isplitr; · ipureintro; rfl
    iexact Hs

/-- The wait for a transfer in flight: its delivery, and the semaphore back at zero. -/
theorem wp_await (EC : UEmb Counters 𝕄) [EC.LandsIn (upEmb : UEmb _ 𝕄)] {s₁ s₂ : Shape} {e₁ e₂ : EltTy} {κ' : Kind} {sem : DmaSem sig}
    {srcw : Memref sig c.2.kind sp' s₂ e₂} {dstw : Memref sig κ' sp s₁ e₁} {hsrc : srcw.view.WordExact} {hdst : dstw.view.WordExact}
    {k : PUnit → Prog (TpuEff nD τ sig Val Λ c.2) α} {N : ℕ} (hN : dstw.view.dmaCredit = N) {D : sProp 𝕄}
    {O : CellTallies nD τ sig Unit} :
    iprop(Flight EC c (.dma sem) () N D ∗ owing c O ∗ MayWait c (.dma sem) () O)
      ⊢ iprop((iprop(D ∗ semVal (c, .dma sem) 0 ∗ owing c O) -∗ wp frame (wpE defs 𝒱 c bd) Set.univ (k ⟨⟩) Q)
          -∗ wp frame (wpE defs 𝒱 c bd) Set.univ (.op (.waitDma2 sem srcw dstw hsrc hdst) k) Q) := by
  iintro ⟨HF, HO, Hm⟩ Hk
  unfold owing
  icases HO with ⟨%W, HO⟩
  iapply (Transfers.wp_waitLocalO EC 𝒱 c bd () hN) $$ [HF HO Hm]
  · isplitl [HF]; · iexact HF
    isplitl [HO] <;> iassumption
  iintro ⟨HD, Hv, HO⟩
  iapply Hk
  isplitl [HD]; · iexact HD
  isplitl [Hv]; · iexact Hv
  iexists _; iexact HO

end Wp

end Cert.Steps

end
-- ==== Proof.Slots.lean ====
/-
# A buffer cut into slots

A whole buffer held at anything is its slots held at anything, and back, for any family of rectangles that are disjoint
and cover the buffer. A buffer is also its one full rectangle.
-/
module

public import proofs.«01_k».proof.Proof.Steps

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type} {U : Type} [URA U]

local notation "𝕄" => MT nD τ sig Unit Val ℕ U ℕ

/-- A whole buffer held at anything is its points-to at some contents. -/
theorem ownsAny_whole (c : Thread nD τ) (b : Ref sig c.2.kind) :
    (ownsAny c (Memref.whole b) : sProp 𝕄) = iprop(∃ f : Buf Val (c.loc b), (c.loc b) ↦{fullShare} f) := by
  unfold ownsAny; simp only [owns_whole]

section Cut

variable (c : Thread nD τ) {sp : Space} {sh : Shape} {e : EltTy} (m : Memref sig c.2.kind sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- Cut into slots. -/
theorem ownsAny_cut : (ownsAny c m : sProp 𝕄) ⊢ bigSep Finset.univ fun t => ownsAny c (m.slice (r t) (hr t)) := by
  unfold ownsAny
  iintro ⟨%X, H⟩
  ihave H' := (owns_rects c m fullShare r hr hd hcov X) $$ H
  iapply (show (bigSep Finset.univ fun t => (owns c (m.slice (r t) (hr t)) fullShare (fun j => X ((r t).emb j)) : sProp 𝕄))
      ⊢ bigSep Finset.univ fun t => iprop(∃ Y, owns c (m.slice (r t) (hr t)) fullShare Y) from
    bigSep_mono fun t _ => ownsAny_of c (m.slice (r t) (hr t)) _)
  iexact H'

/-- Joined from slots. -/
theorem ownsAny_join [∀ e, Nonempty (Val e)] : (bigSep Finset.univ fun t => (ownsAny c (m.slice (r t) (hr t)) : sProp 𝕄)) ⊢ ownsAny c m := by
  classical
  unfold ownsAny
  iintro H
  ihave H' := (bigSep_exists_pi Finset.univ fun t (X : (r t).shape.Idx → Val e) => (owns c (m.slice (r t) (hr t)) fullShare X : sProp 𝕄)) $$ H
  icases H' with ⟨%X, H⟩
  have hin (i : sh.Idx) : ∃ t, i ∈ (r t).set := by
    obtain ⟨t, -, h⟩ := Finset.mem_biUnion.mp (hcov.symm ▸ Finset.mem_univ i); exact ⟨t, h⟩
  choose s hs using hin
  have hat (t : T) (j : (r t).shape.Idx) : s ((r t).emb j) = t := by
    by_contra hne
    exact Finset.disjoint_left.mp (hd _ _ hne) (hs _) (by rw [← Rect.map_emb_univ]; exact Finset.mem_map_of_mem _ (Finset.mem_univ j))
  let Z : sh.Idx → Val e := fun i => Function.extend (r (s i)).emb (X (s i)) (fun _ => Classical.arbitrary _) i
  have hZ (t : T) (j : (r t).shape.Idx) : Z ((r t).emb j) = X t j := by
    show Function.extend (r (s ((r t).emb j))).emb (X (s ((r t).emb j))) _ _ = _
    rw [hat t j, (r t).emb.injective.extend_apply]
  iexists Z
  iapply (owns_of_rects c m fullShare r hr hd hcov Z)
  iapply (Entails.of_eq (bigSep_congr (s := Finset.univ) fun t _ => congrArg (owns c (m.slice (r t) (hr t)) fullShare) (funext fun j => (hZ t j).symm)))
  iexact H

end Cut

section All

variable (c : Thread nD τ) {sp : Space} {sh : Shape} {e : EltTy} (m : Memref sig c.2.kind sp sh e) (off : Fin sh.rank → ℕ)
  (h : ∀ a, off a + sh.size a ≤ sh.size a) (hr : ∀ a, (Rect.unit off sh.size h).stride a = 1)

/-- The full rectangle of a memref is the memref. -/
theorem owns_full [∀ e, Nonempty (Val e)] (X : sh.Idx → Val e) :
    (owns c (m.slice (Rect.unit off sh.size h) hr) fullShare X : sProp 𝕄) = owns c m fullShare X := by
  have hz : off = fun _ => 0 := funext fun a => by have := h a; omega
  subst hz
  have hemb : ∀ j : sh.Idx, (Rect.unit (fun _ => 0) sh.size h).emb j = j := fun j => by
    funext a; exact Fin.ext (by show 0 + 1 * (j a).val = (j a).val; omega)
  have hcov : (Finset.univ : Finset Unit).biUnion (fun _ => (Rect.unit (fun _ => 0) sh.size h).set) = Finset.univ :=
    Finset.eq_univ_of_forall fun i => Finset.mem_biUnion.mpr ⟨(), Finset.mem_univ _,
      Rect.mem_set_unit.mpr fun a => ⟨Nat.zero_le _, by have := (i a).isLt; omega⟩⟩
  have hX : (fun j => X ((Rect.unit (fun _ => 0) sh.size h).emb j)) = X := funext fun j => congrArg X (hemb j)
  have h1 := owns_rects (Val := Val) (Ix := Unit) (Name := ℕ) (U := U) (Lvl := ℕ) c m fullShare (fun _ : Unit => Rect.unit (fun _ => 0) sh.size h) (fun _ => hr) (fun _ _ hne => absurd rfl hne) hcov X
  have h2 := owns_of_rects (Val := Val) (Ix := Unit) (Name := ℕ) (U := U) (Lvl := ℕ) c m fullShare (fun _ : Unit => Rect.unit (fun _ => 0) sh.size h) (fun _ => hr) (fun _ _ hne => absurd rfl hne) hcov X
  rw [BI.bigSep_univ_of_subsingleton ()] at h1 h2
  rw [hX] at h1 h2
  exact BI.Entails.antisymm h2 h1

/-- So too at anything. -/
theorem ownsAny_full [∀ e, Nonempty (Val e)] :
    (ownsAny c (m.slice (Rect.unit off sh.size h) hr) : sProp 𝕄) = ownsAny c m := by
  unfold ownsAny
  exact congrArg _ (funext fun X => owns_full c m off h hr X)

end All

end Cert.Steps

end
-- ==== Proof.KernelRun.lean ====
/-
  What a run of the program leaves: on every device the result array holds `outAt`, the seven arguments are as they
  were, and every counter is at zero.
-/
module

public import proofs.«01_k».proof.Proof.KernelLaunch
public import Idealize.ShloMosaic.Lib.Pipeline.ValueKit

@[expose] public section

set_option maxRecDepth 16384

noncomputable section

namespace Cert.KernelProof

open Cert.Kernel Cert.Kernel.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The one write-back fills the result array with what the body left. -/
theorem finalA_out (c : Dev nD) : finalA m ρ c (1 : Fin 2) = (outAt m c : Buf (Elt F) ((cfg0.win 1).arr.view.loc (c : Thread nD τ))) := by
  refine (dats m ρ 0 c).arrAt_eq_of_after_last 1 t0_0 (by decide +kernel) _ fun j => ?_
  blk_simp
  rfl

/-- The program's run from memory `m`: the result, the arguments, the counters. -/
theorem run_ends : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r h => ⟨fun c => ⟨((h.1 c).1 1).trans (finalA_out m ρ c), ((h.1 c).1 0).trans (finalA_x m ρ c),
      (h.1 c).2 _ (Pipeline.mem_restRefs_of main_arg1 (by decide) (by decide)), (h.1 c).2 _ (Pipeline.mem_restRefs_of main_arg2 (by decide) (by decide)),
      (h.1 c).2 _ (Pipeline.mem_restRefs_of main_arg3 (by decide) (by decide)), (h.1 c).2 _ (Pipeline.mem_restRefs_of main_arg4 (by decide) (by decide)),
      (h.1 c).2 _ (Pipeline.mem_restRefs_of main_arg5 (by decide) (by decide)), (h.1 c).2 _ (Pipeline.mem_restRefs_of main_arg6 (by decide) (by decide))⟩, h.2⟩)
    (run_main m ρ)

end Cert.KernelProof

end
-- ==== Proof.KernelIdealProtocol.lean ====
/-
# The exchange protocol of the kernel

Four devices. Device `c` has two partners: `p1 c`, which differs from `c` in the lowest bit, and `p2 c = 3 - c`. The
kernel makes six exchanges, hop `0` to hop `5`: on an even hop a device swaps slots with `p1`, on an odd hop with `p2`.
On hop `k` device `c` writes its message into slot `k` of its send buffer and transfers it into slot `k` of its
partner's receive buffer; the two completion semaphores are the `k`-th of two arrays of six. Before the first hop the
device signals the barrier semaphore of both partners and waits for both signals on its own.

The protocol is stated in rounds, one round per semaphore cell: a barrier cell has two duties, one per partner, each
handing over the partner's receive slots of that partner's hops; a send cell hands the sent slot back; a receive cell
hands over the received slot, holding the partner's message.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Steps

@[expose] public section

set_option maxRecDepth 16384

noncomputable section

namespace Cert.KernelIdealProof

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ## The resource algebra: the pipeline's copy, the exchange's, and the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (τ := τ) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partners -/

def p1 : Dev nD → Dev nD := ![1, 0, 3, 2]
def p2 : Dev nD → Dev nD := ![3, 2, 1, 0]

theorem dev1_eq (c : Dev nD) : (⟨k0_dev1 c, k0_dev1_lt c⟩ : Dev nD) = p1 c := by revert c; decide
theorem dev2_eq (c : Dev nD) : (⟨k0_dev2 c, k0_dev2_lt c⟩ : Dev nD) = p2 c := by revert c; decide
theorem dev3_eq (c : Dev nD) : (⟨k0_dev3 c, k0_dev3_lt c⟩ : Dev nD) = p1 c := by revert c; decide
theorem dev4_eq (c : Dev nD) : (⟨k0_dev4 c, k0_dev4_lt c⟩ : Dev nD) = p2 c := by revert c; decide
theorem dev5_eq (c : Dev nD) : (⟨k0_dev5 c, k0_dev5_lt c⟩ : Dev nD) = p1 c := by revert c; decide
theorem dev6_eq (c : Dev nD) : (⟨k0_dev6 c, k0_dev6_lt c⟩ : Dev nD) = p2 c := by revert c; decide
theorem dev7_eq (c : Dev nD) : (⟨k0_dev7 c, k0_dev7_lt c⟩ : Dev nD) = p1 c := by revert c; decide
theorem dev8_eq (c : Dev nD) : (⟨k0_dev8 c, k0_dev8_lt c⟩ : Dev nD) = p2 c := by revert c; decide

/-- The partner a duty of a barrier cell belongs to: `false` the first, `true` the second. -/
def pd (d : Bool) (c : Dev nD) : Dev nD := if d then p2 c else p1 c
theorem pd_pd (d : Bool) (c : Dev nD) : pd d (pd d c) = c := by revert d c; decide
theorem pd_ne (c : Dev nD) : pd false c ≠ pd true c := by revert c; decide
theorem pd_ne_self (d : Bool) (c : Dev nD) : pd d c ≠ c := by revert d c; decide
def pdEquiv (d : Bool) : Dev nD ≃ Dev nD := ⟨pd d, pd d, pd_pd d, pd_pd d⟩

/-- The parity of a hop, and the partner of device `c` on it. -/
def par (k : Fin 6) : Bool := k.val % 2 == 1
def pe (k : Fin 6) (c : Dev nD) : Dev nD := pd (par k) c
theorem pe_pe (k : Fin 6) (c : Dev nD) : pe k (pe k c) = c := pd_pd _ _
def peEquiv (k : Fin 6) : Dev nD ≃ Dev nD := pdEquiv (par k)

/-! ## Slots and semaphores -/

theorem hop_inb (k : Fin 6) : ∀ a, (![k.val / 2, k.val % 2, 0, 0] : Fin 4 → ℕ) a + S1x1x64x2048.size a ≤ S3x2x64x2048.size a := by
  revert k; decide
theorem sem_inb (k : Fin 6) : ∀ a, (![k.val / 2, k.val % 2] : Fin 2 → ℕ) a + S1x1.size a ≤ S3x2.size a := by revert k; decide
theorem wi_inb (j : Fin 2) : ∀ a, (![j.val, 0, 0] : Fin 3 → ℕ) a + S1x1024x2048.size a ≤ S2x1024x2048.size a := by revert j; decide
theorem wo_inb (j : Fin 2) : ∀ a, (![j.val, 0, 0] : Fin 3 → ℕ) a + S1x2048x1024.size a ≤ S2x2048x1024.size a := by revert j; decide
theorem lsem_inb (l : Fin 3) : ∀ a, (![l.val] : Fin 1 → ℕ) a + S1.size a ≤ S3.size a := by revert l; decide

/-- Slot `k` of a message buffer. -/
abbrev hopR (k : Fin 6) : Rect S3x2x64x2048 := Rect.unit (s := S3x2x64x2048) ![k.val / 2, k.val % 2, 0, 0] S1x1x64x2048.size (hop_inb k)
/-- Slot `j` of the two-slot staging of an input weight, and of an output weight. -/
abbrev wiR (j : Fin 2) : Rect S2x1024x2048 := Rect.unit (s := S2x1024x2048) ![j.val, 0, 0] S1x1024x2048.size (wi_inb j)
abbrev woR (j : Fin 2) : Rect S2x2048x1024 := Rect.unit (s := S2x2048x1024) ![j.val, 0, 0] S1x2048x1024.size (wo_inb j)

/-- The send slots, the receive slots; the weights' slots; the two rounded weights; the staged input and result. -/
abbrev sW (k : Fin 6) : Memref sig .tc .vmem S1x1x64x2048 .bf16 := (Memref.whole cc0_scratch4 : Memref sig .tc .vmem S3x2x64x2048 .bf16).slice (hopR k) (fun _ => rfl)
abbrev rW (k : Fin 6) : Memref sig .tc .vmem S1x1x64x2048 .bf16 := (Memref.whole cc0_scratch5 : Memref sig .tc .vmem S3x2x64x2048 .bf16).slice (hopR k) (fun _ => rfl)
abbrev wiW (j : Fin 2) : Memref sig .tc .vmem S1x1024x2048 .f32 := (Memref.whole cc0_scratch0 : Memref sig .tc .vmem S2x1024x2048 .f32).slice (wiR j) (fun _ => rfl)
abbrev woW (j : Fin 2) : Memref sig .tc .vmem S1x2048x1024 .f32 := (Memref.whole cc0_scratch1 : Memref sig .tc .vmem S2x2048x1024 .f32).slice (woR j) (fun _ => rfl)
abbrev biW : Memref sig .tc .vmem S1024x2048 .bf16 := (Memref.whole cc0_scratch2 : Memref sig .tc .vmem S1024x2048 .bf16).slice
  (Rect.unit (s := S1024x2048) ![0, 0] S1024x2048.size inb_S1024x2048_S1024x2048_0_0) (fun _ => rfl)
abbrev boW : Memref sig .tc .vmem S2048x1024 .bf16 := (Memref.whole cc0_scratch3 : Memref sig .tc .vmem S2048x1024 .bf16).slice
  (Rect.unit (s := S2048x1024) ![0, 0] S2048x1024.size inb_S2048x1024_S2048x1024_0_0) (fun _ => rfl)
abbrev xW : Memref sig .tc .vmem S64x1024 .f32 := (Memref.whole cc0_stg0_0 : Memref sig .tc .vmem S64x1024 .f32).slice
  (Rect.unit (s := S64x1024) ![0, 0] S64x1024.size inb_S64x1024_S64x1024_0_0) (fun _ => rfl)
abbrev outW : Memref sig .tc .vmem S64x1024 .f32 := (Memref.whole cc0_stg1_0 : Memref sig .tc .vmem S64x1024 .f32).slice
  (Rect.unit (s := S64x1024) ![0, 0] S64x1024.size inb_S64x1024_S64x1024_0_0) (fun _ => rfl)

/-- The slots as the transfers name them, their axes of size one dropped. -/
abbrev sM (k : Fin 6) : Memref sig .tc .vmem S64x2048 .bf16 := (sW k).squeeze S64x2048 squeezes_S1x1x64x2048_S64x2048
abbrev rM (k : Fin 6) : Memref sig .tc .vmem S64x2048 .bf16 := (rW k).squeeze S64x2048 squeezes_S1x1x64x2048_S64x2048

abbrev barS : Sem sig := (SemArray.scalar (sig.barrier 0 rfl) : Sems sig S_).sem
abbrev sendS (k : Fin 6) : DmaSem sig := ((cc0_scratch8.slice (Rect.unit (s := S3x2) ![k.val / 2, k.val % 2] S1x1.size (sem_inb k))).squeeze S_ squeezes_S1x1_S_).sem
abbrev recvS (k : Fin 6) : DmaSem sig := ((cc0_scratch9.slice (Rect.unit (s := S3x2) ![k.val / 2, k.val % 2] S1x1.size (sem_inb k))).squeeze S_ squeezes_S1x1_S_).sem
/-- The semaphores of the local copies of the input weights and of the output weights. -/
abbrev wiS (l : Fin 3) : DmaSem sig := ((cc0_scratch6.slice (Rect.unit (s := S3) ![l.val] S1.size (lsem_inb l))).squeeze S_ squeezes_S1_S_).sem
abbrev woS (l : Fin 3) : DmaSem sig := ((cc0_scratch7.slice (Rect.unit (s := S3) ![l.val] S1.size (lsem_inb l))).squeeze S_ squeezes_S1_S_).sem

/-- The cells of the exchange on one device: the barrier, the six send cells, the six receive cells. -/
abbrev Cell : Type := Unit ⊕ (Bool × Fin 6)
abbrev csem : Cell → SemLoc sig
  | .inl () => .reg barS
  | .inr (false, k) => .dma (sendS k)
  | .inr (true, k) => .dma (recvS k)
/-- The semaphores of the local copies. -/
abbrev lsem : Bool × Fin 3 → SemLoc sig
  | (false, l) => .dma (wiS l)
  | (true, l) => .dma (woS l)

theorem csem_inj : Function.Injective csem := by decide
theorem lsem_not (x : Bool × Fin 3) : ¬ ∃ y, csem y = lsem x := by revert x; decide
theorem stg_not : (¬ ∃ y, csem y = SemLoc.dma cc0_sem0_0) ∧ ¬ ∃ y, csem y = SemLoc.dma cc0_sem1_0 := by decide

abbrev kcell (ck : Dev nD × Cell) : GSem nD τ sig := ((ck.1 : Thread nD τ), csem ck.2)
abbrev barCell (c : Dev nD) : GSem nD τ sig := kcell (c, .inl ())
abbrev sendCell (c : Dev nD) (k : Fin 6) : GSem nD τ sig := kcell (c, .inr (false, k))
abbrev recvCell (c : Dev nD) (k : Fin 6) : GSem nD τ sig := kcell (c, .inr (true, k))

theorem kcell_injective : Function.Injective (kcell : Dev nD × Cell → GSem nD τ sig) := by
  rintro ⟨c, k⟩ ⟨c', k'⟩ h
  have h1 : c = c' := congrArg (fun g : GSem nD τ sig => g.1.1) h
  have h2 : csem k = csem k' := congrArg Prod.snd h
  rw [h1, csem_inj h2]

/-- Which cell of the exchange a semaphore is, if any. -/
def dec : SemLoc sig → Option Cell := Function.extend csem some fun _ => none
theorem dec_csem (x : Cell) : dec (csem x) = some x := csem_inj.extend_apply _ _ _
theorem dec_none {sm : SemLoc sig} (h : ¬ ∃ y, csem y = sm) : dec sm = none := Function.extend_apply' _ _ _ h
theorem dec_eq_some {sm : SemLoc sig} {x : Cell} (h : dec sm = some x) : sm = csem x := by
  by_cases hs : ∃ y, csem y = sm
  · obtain ⟨y, rfl⟩ := hs
    rw [dec_csem] at h
    exact congrArg csem (Option.some.inj h)
  · rw [dec_none hs] at h; cases h

/-- The credit of one message's transfer. -/
abbrev N : ℕ := (rM 0).view.dmaCredit
theorem N_pos : 0 < N := View.dmaCredit_pos _ (by decide)
theorem rM_credit (k : Fin 6) : (rM k).view.dmaCredit = N := rfl
theorem sM_credit (k : Fin 6) : (sM k).view.dmaCredit = N := rfl

end Cert.KernelIdealProof

end
-- ==== Proof.KernelIdealSchedule.lean ====
/-
# The messages, the rounds of the exchange, and the three steps of a hop

What each device sends on each hop, as a function of the memory at launch; the schedule of the exchange; the order in
which devices may wait; and, for every hop at once, the three steps a device takes: the transfer, the wait on its send
cell, the wait on its receive cell.
-/
module

public import proofs.«01_k».proof.Proof.KernelIdealProtocol

@[expose] public section

set_option maxRecDepth 16384

noncomputable section

namespace Cert.KernelIdealProof

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The messages -/

/-- Device `c`'s block of the activations as its staging buffer holds it. -/
def xin (c : Dev nD) : Vec F S64x1024 .f32 := (win0_0.blk (0 : Fin 1)).view.read (Elt F) (m ((c : Thread nD τ).loc main_arg0))

/-- Device `c`'s three blocks of the input weights and three of the output weights, as its memory holds them. -/
def wi (l : Fin 3) (c : Dev nD) : Vec F S1024x2048 .f32 := match l with
  | 0 => m ((c : Thread nD τ).loc main_arg1) | 1 => m ((c : Thread nD τ).loc main_arg2) | 2 => m ((c : Thread nD τ).loc main_arg3)
def wo (l : Fin 3) (c : Dev nD) : Vec F S2048x1024 .f32 := match l with
  | 0 => m ((c : Thread nD τ).loc main_arg4) | 1 => m ((c : Thread nD τ).loc main_arg5) | 2 => m ((c : Thread nD τ).loc main_arg6)

/-- A weight as a slot of its staging holds it. -/
def wiSlot (X : Vec F S1024x2048 .f32) : Vec F S1x1024x2048 .f32 := relaid squeezes_S1x1024x2048_S1024x2048.numel_eq X
def woSlot (X : Vec F S2048x1024 .f32) : Vec F S1x2048x1024 .f32 := relaid squeezes_S1x2048x1024_S2048x1024.numel_eq X

/-- What device `c` sends on hops `0` to `5`. -/
def msg0 (c : Dev nD) : Vec F S1x1x64x2048 .bf16 := k0_pay4 (k0_pay2 (xin m c)) (k0_pay3 (wiSlot (wi m 0 c)))
def msg1 (c : Dev nD) : Vec F S1x1x64x2048 .bf16 := k0_pay6 (msg0 m c) (msg0 m (p1 c))
def msg2 (c : Dev nD) : Vec F S1x1x64x2048 .bf16 :=
  k0_pay8 (msg1 m c) (msg1 m (p2 c)) (k0_pay5 (woSlot (wo m 0 c))) (k0_pay7 (wiSlot (wi m 1 c)))
def msg3 (c : Dev nD) : Vec F S1x1x64x2048 .bf16 := k0_pay10 (msg2 m c) (msg2 m (p1 c))
def msg4 (c : Dev nD) : Vec F S1x1x64x2048 .bf16 :=
  k0_pay13 (k0_pay12 (msg3 m c) (msg3 m (p2 c)) (k0_pay9 (woSlot (wo m 1 c))) (k0_pay11 (wiSlot (wi m 2 c))))
def msg5 (c : Dev nD) : Vec F S1x1x64x2048 .bf16 := k0_pay15 (msg4 m c) (msg4 m (p1 c))

/-- The message of device `c` on hop `k`. -/
def msg (k : Fin 6) (c : Dev nD) : Vec F S1x1x64x2048 .bf16 := match k with
  | 0 => msg0 m c | 1 => msg1 m c | 2 => msg2 m c | 3 => msg3 m c | 4 => msg4 m c | 5 => msg5 m c

/-- The kernel's result on device `c`. -/
def outAt (c : Dev nD) : Vec F S64x1024 .f32 := k0_pay1 (msg5 m c) (msg5 m (p2 c)) (k0_pay14 (woSlot (wo m 2 c)))

/-! ## The schedule -/

/-- The receive slots on device `n` of the hops of one parity. -/
def rSlots (d : Bool) (n : Dev nD) : sProp 𝕄 := match d with
  | false => iprop(ownsAny (n : Thread nD τ) (rW 0) ∗ ownsAny (n : Thread nD τ) (rW 2) ∗ ownsAny (n : Thread nD τ) (rW 4))
  | true => iprop(ownsAny (n : Thread nD τ) (rW 1) ∗ ownsAny (n : Thread nD τ) (rW 3) ∗ ownsAny (n : Thread nD τ) (rW 5))

instance rSlots_storable (d : Bool) (n : Dev nD) : BI.Storable (upEmb : UEmb _ 𝕄) (rSlots (F := F) d n) := by
  unfold rSlots; cases d <;> infer_instance

/-- What a cell of device `c` hands its owner. -/
def pay (c : Dev nD) (x : Cell) (d : Bool) : sProp 𝕄 := match x with
  | .inl () => rSlots d (pd d c)
  | .inr (false, k) => owns (c : Thread nD τ) (sW k) fullShare (msg m k c)
  | .inr (true, k) => owns (c : Thread nD τ) (rW k) fullShare (msg m k (pe k c))

instance pay_storable (c : Dev nD) (x : Cell) (d : Bool) : BI.Storable (upEmb : UEmb _ 𝕄) (pay m c x d) := by
  unfold pay; split <;> infer_instance

def cduties : Cell → Finset Bool
  | .inl () => Finset.univ
  | .inr _ => {false}
def camount : Cell → ℕ
  | .inl () => 1
  | .inr _ => N
theorem camount_pos (x : Cell) : 0 < camount x := by
  rcases x with ⟨⟩ | x
  · exact Nat.one_pos
  · exact N_pos

/-- The schedule: every cell one round, round `0`; a barrier's two duties are of one unit, the others of one message's
    credit. -/
def Rd : Rounds.Schedule (GSem nD τ sig) Bool 𝕄 where
  duties g r := if r = 0 ∧ g.1.2 = .tc then (dec g.2).elim ∅ cduties else ∅
  unitless _ := False
  amount g _ _ := (dec g.2).elim 1 camount
  payload g _ d := (dec g.2).elim iprop(emp) fun x => pay m g.1.1 x d
  amount_pos g _ _ _ := by
    cases dec g.2 with
    | none => exact Nat.one_pos
    | some x => exact camount_pos x

instance Rd_payload_storable (g : GSem nD τ sig) (r : ℕ) (d : Bool) :
    BI.Storable (upEmb : UEmb _ 𝕄) ((Rd (F := F) m).payload g r d) := by
  show BI.Storable upEmb ((dec g.2).elim iprop(emp) fun x => pay m g.1.1 x d)
  cases dec g.2 with
  | none => show BI.Storable upEmb (iprop(emp) : sProp 𝕄); infer_instance
  | some x => show BI.Storable upEmb (pay m g.1.1 x d); infer_instance

section Sched
variable (c : Dev nD)

theorem duties_cell (x : Cell) : (Rd (F := F) m).duties (kcell (c, x)) 0 = cduties x := by
  show (if (0 : ℕ) = 0 ∧ (kcell (c, x)).1.2 = .tc then (dec (csem x)).elim ∅ cduties else ∅) = _
  rw [if_pos ⟨rfl, rfl⟩, dec_csem]; rfl
theorem duties_later (g : GSem nD τ sig) : ∀ r, 1 ≤ r → (Rd (F := F) m).duties g r = ∅ :=
  fun r hr => if_neg fun h => by omega
theorem amount_cell (x : Cell) (d : Bool) : (Rd (F := F) m).amount (kcell (c, x)) 0 d = camount x := by
  show (dec (csem x)).elim 1 camount = _
  rw [dec_csem]; rfl
theorem payload_cell (x : Cell) (d : Bool) : (Rd (F := F) m).payload (kcell (c, x)) 0 d = pay m c x d := by
  show (dec (csem x)).elim iprop(emp) (fun x => pay m c x d) = _
  rw [dec_csem]; rfl

theorem expect_bar : (Rd (F := F) m).expect (barCell c) 0 = 2 := by
  unfold Schedule.expect Schedule.amountOf
  rw [duties_cell, Finset.sum_congr rfl fun d _ => amount_cell m c (.inl ()) d]; rfl
theorem expect_xfer (x : Bool × Fin 6) : (Rd (F := F) m).expect (kcell (c, .inr x)) 0 = N := by
  unfold Schedule.expect Schedule.amountOf
  rw [duties_cell]
  show Finset.sum {false} _ = _
  rw [Finset.sum_singleton, amount_cell]; rfl

theorem rest_bar : bigSep ((Rd (F := F) m).duties (barCell c) 0 \ ∅) (fun d => (Rd (F := F) m).payload (barCell c) 0 d)
    = iprop(rSlots false (p1 c) ∗ rSlots true (p2 c)) := by
  rw [Finset.sdiff_empty, duties_cell]
  show bigSep Finset.univ _ = _
  rw [bigSep_univ_eq_bigSepL [false, true] (by decide) (by decide), bigSepL_cons_cons, bigSepL_singleton, payload_cell, payload_cell]
  rfl
theorem rest_xfer (x : Bool × Fin 6) : bigSep ((Rd (F := F) m).duties (kcell (c, .inr x)) 0 \ ∅) (fun d => (Rd (F := F) m).payload (kcell (c, .inr x)) 0 d)
    = pay m c (.inr x) false := by
  rw [Finset.sdiff_empty, duties_cell]
  show bigSep {false} _ = _
  rw [bigSep_singleton, payload_cell]

theorem rest_send (k : Fin 6) : bigSep ((Rd (F := F) m).duties (sendCell c k) 0 \ ∅) (fun d => (Rd (F := F) m).payload (sendCell c k) 0 d)
    = owns (c : Thread nD τ) (sW k) fullShare (msg m k c) := rest_xfer m c (false, k)
theorem rest_recv (k : Fin 6) : bigSep ((Rd (F := F) m).duties (recvCell c k) 0 \ ∅) (fun d => (Rd (F := F) m).payload (recvCell c k) 0 d)
    = owns (c : Thread nD τ) (rW k) fullShare (msg m k (pe k c)) := rest_xfer m c (true, k)

end Sched

/-! ## What a device owes, and the order of the waits -/

/-- What device `c` owes with `n` hops still to send: the receive cells of its partners on the last `n` hops. -/
def due (c : Dev nD) : ℕ → CellTallies nD τ sig Unit
  | 0 => 0
  | n + 1 => due c n + tallyAt (recvCell (pe (Fin.ofNat 6 (5 - n)) c) (Fin.ofNat 6 (5 - n))) () N

theorem due_succ (c : Dev nD) {k : Fin 6} {n : ℕ} (h : k.val + n = 5) :
    due c (n + 1) = due c n + tallyAt (recvCell (pe k c) k) () N := by
  have hk : Fin.ofNat 6 (5 - n) = k := Fin.ext (by show (5 - n) % 6 = k.val; omega)
  show due c n + _ = _
  rw [hk]

/-- What device `c` owes at launch: its six messages and a unit on each partner's barrier. -/
def O₁ (c : Dev nD) : CellTallies nD τ sig Unit := due c 6 + tallyAt (barCell (p2 c)) () 1
def O₀ (c : Dev nD) : CellTallies nD τ sig Unit := O₁ c + tallyAt (barCell (p1 c)) () 1

def L (g : GSem nD τ sig) : Finset Unit := if g.1.2 = .tc then {()} else ∅
/-- The level of a cell: barriers at `1`, the receive cells above in the order of the hops, everything else at `0`. -/
def clev : Cell → ℕ
  | .inl () => 1
  | .inr (false, _) => 0
  | .inr (true, k) => 2 + k.val
def lv (g : GSem nD τ sig) (_ : Unit) : ℕ := (dec g.2).elim 0 clev

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cell) : lv (kcell (c, x)) () = clev x := by
  show (dec (csem x)).elim 0 clev = _
  rw [dec_csem]; rfl
theorem lv_none (c : Dev nD) {sm : SemLoc sig} (h : ¬ ∃ y, csem y = sm) : lv ((c : Thread nD τ), sm) () = 0 := by
  show (dec sm).elim 0 clev = _
  rw [dec_none h]; rfl

theorem due_pos {c : Dev nD} {g : GSem nD τ sig} {u : Unit} : ∀ {n : ℕ}, n ≤ 6 → 0 < due c n g u → ∃ k : Fin 6, 6 ≤ k.val + n ∧ g = recvCell (pe k c) k
  | 0, _, h => absurd h (Nat.lt_irrefl 0)
  | n + 1, hn, h => by
    by_cases h' : g = recvCell (pe (Fin.ofNat 6 (5 - n)) c) (Fin.ofNat 6 (5 - n))
    · exact ⟨_, by show 6 ≤ (5 - n) % 6 + (n + 1); omega, h'⟩
    · rw [due, Pi.add_apply, Finsupp.add_apply, tallyAt_apply, if_neg (fun h'' => h' h''.1)] at h
      obtain ⟨k, hk, hg⟩ := due_pos (n := n) (by omega) h
      exact ⟨k, by omega, hg⟩

theorem O₀_pos {c : Dev nD} {g : GSem nD τ sig} {u : Unit} (h : 0 < O₀ c g u) : ∃ (c' : Dev nD) (x : Cell), g = kcell (c', x) ∧ 0 < clev x := by
  have h0 : O₀ c g u = due c 6 g u + (if g = barCell (p2 c) ∧ u = () then 1 else 0) + (if g = barCell (p1 c) ∧ u = () then 1 else 0) := by
    unfold O₀ O₁
    rw [Pi.add_apply, Finsupp.add_apply, Pi.add_apply, Finsupp.add_apply, tallyAt_apply, tallyAt_apply]
  by_cases h1 : g = barCell (p1 c)
  · exact ⟨p1 c, .inl (), h1, Nat.one_pos⟩
  by_cases h2 : g = barCell (p2 c)
  · exact ⟨p2 c, .inl (), h2, Nat.one_pos⟩
  rw [h0, if_neg (fun h' => h2 h'.1), if_neg (fun h' => h1 h'.1)] at h
  simp only [Nat.add_zero] at h
  obtain ⟨k, hg⟩ : ∃ k : Fin 6, g = recvCell (pe k c) k := (due_pos (Nat.le_refl 6) h).imp fun k hk => hk.2
  exact ⟨pe k c, .inr (true, k), hg, Nat.add_pos_left (by decide) _⟩

/-- A device may wait on a cell below everything it owes. -/
theorem mayWait_of (c : Dev nD) (sm : SemLoc sig) (O : CellTallies nD τ sig Unit)
    (h : ∀ g u, 0 < O g u → ∃ (c' : Dev nD) (x : Cell), g = kcell (c', x) ∧ lv ((c : Thread nD τ), sm) () < clev x) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by obtain ⟨c', x, rfl, -⟩ := h g u hg; exact Finset.mem_singleton_self _)
    (fun p hp => by rw [Finset.mem_singleton.mp hp])
    (fun g u hg => by obtain ⟨c', x, rfl, hx⟩ := h g u hg; rw [lv_cell]; exact hx)

theorem mayWait_due (c : Dev nD) (sm : SemLoc sig) (n : ℕ) (hn : n ≤ 6) (hsm : lv ((c : Thread nD τ), sm) () + n ≤ 7) :
    (levAts L lv : sProp 𝕄) ⊢ MayWait (c : Thread nD τ) sm () (due c n) :=
  mayWait_of c sm _ fun g u hg => by
    obtain ⟨k, hk, hg⟩ := due_pos hn hg
    exact ⟨_, _, hg, by show _ < 2 + k.val; omega⟩

theorem mayWait_local (c : Dev nD) (x : Bool × Fin 3) (n : ℕ) (hn : n ≤ 6) :
    (levAts L lv : sProp 𝕄) ⊢ MayWait (c : Thread nD τ) (lsem x) () (due c n) :=
  mayWait_due c _ n hn (by rw [lv_none c (lsem_not x)]; omega)

theorem mayWait_stage (c : Dev nD) (sm : SemLoc sig) (hsm : ¬ ∃ y, csem y = sm) (O : CellTallies nD τ sig Unit) (hO : O = O₀ c ∨ O = 0) :
    (levAts L lv : sProp 𝕄) ⊢ MayWait (c : Thread nD τ) sm () O := by
  rcases hO with rfl | rfl
  · refine mayWait_of c sm _ fun g u hg => ?_
    obtain ⟨c', x, hg, hx⟩ := O₀_pos hg
    exact ⟨c', x, hg, by rw [lv_none c hsm]; exact hx⟩
  · rw [MayWait_zero]; iintro -; iempintro

/-! ## What every step may use -/

variable (K : Dev nD × Cell → ℕ)

/-- Every cell's invariant, the marks that every cell is at its round, and the levels. -/
def known : sProp 𝕄 :=
  iprop((bigSep Finset.univ fun ck : Dev nD × Cell => cellInv ER (Rd m) (K ck) (kcell ck))
    ∗ (bigSep Finset.univ fun ck : Dev nD × Cell => reached ER (kcell ck) 0) ∗ levAts L lv)

instance known_persistent : BI.Persistent (known m K) := by unfold known; infer_instance

theorem inv_at (ck : Dev nD × Cell) :
    (bigSep Finset.univ fun ck : Dev nD × Cell => (cellInv ER (Rd m) (K ck) (kcell ck) : sProp 𝕄)) ⊢ cellInv ER (Rd m) (K ck) (kcell ck) :=
  bigSep_elim (Finset.mem_univ ck)
theorem reached_at (ck : Dev nD × Cell) :
    (bigSep Finset.univ fun ck : Dev nD × Cell => (reached ER (kcell ck) 0 : sProp 𝕄)) ⊢ reached ER (kcell ck) 0 :=
  bigSep_elim (Finset.mem_univ ck)
theorem known_inv (ck : Dev nD × Cell) : known m K ⊢ cellInv ER (Rd m) (K ck) (kcell ck) := by
  unfold known
  iintro ⟨H, -, -⟩
  iapply (inv_at m K ck); iexact H
theorem known_reached (ck : Dev nD × Cell) : known m K ⊢ reached ER (kcell ck) 0 := by
  unfold known
  iintro ⟨-, H, -⟩
  iapply (reached_at (F := F) ck); iexact H
theorem known_lev : known m K ⊢ (levAts L lv : sProp 𝕄) := by
  unfold known
  iintro ⟨-, -, H⟩
  iexact H

/-! ## A hop -/

abbrev 𝒱₀ : Variants := Variants.none

variable (c : Dev nD) (k : Fin 6)

/-- Hop `k` before its transfer: the device's place on its two cells, the two duties it pays, its credit to receive. -/
def hopNew : sProp 𝕄 :=
  iprop(atPos ER (sendCell c k) 0 ∅ 0 ∗ atPos ER (recvCell c k) 0 ∅ 0 ∗ dutyTok ER (sendCell c k) 0 false
    ∗ dutyTok ER (recvCell (pe k c) k) 0 false ∗ cred (tallyAt (recvCell c k) () N))
/-- After its transfer. -/
def hopAir : sProp 𝕄 :=
  iprop(atPos ER (sendCell c k) 0 ∅ 0 ∗ atPos ER (recvCell c k) 0 ∅ 0 ∗ cred (tallyAt (sendCell c k) () N) ∗ cred (tallyAt (recvCell c k) () N))
/-- After the wait on its send cell. -/
def hopSent : sProp 𝕄 := iprop(atPos ER (recvCell c k) 0 ∅ 0 ∗ cred (tallyAt (recvCell c k) () N) ∗ semVal (sendCell c k) 0)
/-- After the wait on its receive cell. -/
def hopDone : sProp 𝕄 := iprop(semVal (sendCell c k) 0 ∗ semVal (recvCell c k) 0)

section Wp
variable {α : Type} {Q : α → sProp (MT nD τ sig Unit (Elt F) ℕ UU ℕ)} {kn : PUnit → Prog (TpuEff nD τ sig (Elt F) Λ₀ .tc) α}

/-- The transfer of hop `k`. -/
theorem wp_hop_send {n : ℕ} (hk : k.val + n = 5) {c' : Dev nD} (hc' : c' = pe k c)
    {hsc : (rM k : Memref sig (Dev.tc c' : Thread nD τ).2.kind .vmem S64x2048 .bf16).view.ref.isScScratch = false}
    {hsrc : (sM k).view.WordExact} {hdst : (rM k).view.WordExact}
    {hsem : DmaTarget.Typed .vmem (.dma (recvS k)) (.remote (Dev.tc c' : Thread nD τ) (rM k : Memref sig .tc .vmem S64x2048 .bf16) (.dma (sendS k)) hsc)} :
    iprop(known m K ∗ hopNew c k ∗ owns (c : Thread nD τ) (sW k) fullShare (msg m k c) ∗ ownsAny (pe k c : Thread nD τ) (rW k)
        ∗ owing (c : Thread nD τ) (due c (n + 1)))
      ⊢ iprop((iprop(hopAir c k ∗ owing (c : Thread nD τ) (due c n)) -∗ wp frame (wpE (defs₀ (F := F)) 𝒱₀ (c : Thread nD τ) none) Set.univ (kn ⟨⟩) Q)
          -∗ wp frame (wpE (defs₀ (F := F)) 𝒱₀ (c : Thread nD τ) none) Set.univ
              (.op (.enqueueDma (sM k) (.remote (Dev.tc c' : Thread nD τ) (rM k) (.dma (sendS k)) hsc) (.dma (recvS k)) hsrc hdst hsem) kn) Q) := by
  subst hc'
  iintro ⟨#HK, Hh, Hs, Hr, HO⟩ Hk
  ihave #HI1 := (known_inv m K (c, .inr (false, k))) $$ HK
  ihave #HI2 := (known_inv m K (pe k c, .inr (true, k))) $$ HK
  ihave #HR1 := (known_reached m K (c, .inr (false, k))) $$ HK
  ihave #HR2 := (known_reached m K (pe k c, .inr (true, k))) $$ HK
  unfold hopNew owing ownsAny owns
  icases Hh with ⟨Ha1, Ha2, Ht1, Ht2, Hc⟩
  icases HO with ⟨%W, HO⟩
  icases Hs with ⟨%fs, %hfs, Hs⟩
  icases Hr with ⟨%Y, %fd, %hfd, Hr⟩
  have hss : (sM k).view.set = (sW k).view.set := View.set_reshape _ _
  have hrs : (rM k).view.set = (rW k).view.set := View.set_reshape _ _
  have hX : relaid squeezes_S1x1x64x2048_S64x2048.numel_eq ((sM k).view.read (Elt F) fs) = msg m k c := by
    rw [← hfs]
    funext i
    show (sW k).view.read (Elt F) fs (Shape.reshapeEquiv squeezes_S1x1x64x2048_S64x2048.numel_eq ((Shape.reshapeEquiv squeezes_S1x1x64x2048_S64x2048.numel_eq).symm i)) = _
    rw [Equiv.apply_symm_apply]
  have hd1 : false ∈ (Rd (F := F) m).duties (sendCell c k) 0 := by rw [duties_cell]; exact Finset.mem_singleton_self _
  have hd2 : false ∈ (Rd (F := F) m).duties (recvCell (pe k c) k) 0 := by rw [duties_cell]; exact Finset.mem_singleton_self _
  have hp1 : (Rd (F := F) m).payload (sendCell c k) 0 false = owns (c : Thread nD τ) (sW k) fullShare (msg m k c) := payload_cell m c _ false
  have hp2 : (Rd (F := F) m).payload (recvCell (pe k c) k) 0 false = owns (pe k c : Thread nD τ) (rW k) fullShare (msg m k c) :=
    (payload_cell m (pe k c) _ false).trans (congrArg (fun d => owns (pe k c : Thread nD τ) (rW k) fullShare (msg m k d)) (pe_pe k c))
  iapply (Rounds.wp_send_pointsTo 𝒱₀ ER (Rd m) (c : Thread nD τ) none (c' := (pe k c : Thread nD τ)) (src := sM k) (dst := rM k) (sS := .dma (sendS k)) (sem := .dma (recvS k)) (κ₁ := K (c, .inr (false, k))) (κ₂ := K (pe k c, .inr (true, k)))
    (r₁ := 0) (r₂ := 0) (d₁ := false) (d₂ := false) (q := fullShare) (fs := fs) (fd := fd)
    hd1 hd2
    () () N (rM_credit k) (amount_cell m c (.inr (false, k)) false) (amount_cell m (pe k c) (.inr (true, k)) false) (due c n) (due_succ c hk) (W := W)
    ?_ ?_) $$ [Hs Hr HO Ht1 Ht2]
  · rw [hp1, hss]
    unfold owns
    iintro H
    iexists fs
    isplitr; · ipureintro; exact hfs
    iexact H
  · rw [hp2, ← hX, ← owns_squeeze]
    unfold owns
    iintro H
    iexists _
    isplitr
    rotate_left
    · iexact H
    · ipureintro; exact View.read_write_univ _ _
  · isplitr; · iexact HI1
    isplitr; · iexact HI2
    isplitl [Hs]; · rw [hss]; iexact Hs
    isplitl [Hr]; · rw [hrs]; iexact Hr
    isplitl [HO]; · iexact HO
    isplitl [Ht1]; · iexact Ht1
    isplitr; · iexact HR1
    isplitl [Ht2]; · iexact Ht2
    iexact HR2
  iintro ⟨Hcs, HO⟩
  iapply Hk
  unfold hopAir
  isplitl [Ha1 Ha2 Hcs Hc]
  · isplitl [Ha1]; · iexact Ha1
    isplitl [Ha2]; · iexact Ha2
    isplitl [Hcs] <;> iassumption
  · iexists W; iexact HO

/-- The wait on the send cell of hop `k`: the slot back, still at the message sent. -/
theorem wp_hop_sent {n : ℕ} (hn : n ≤ 6)
    {hsrc : (rM k).view.WordExact} {hdst : (sM k).view.WordExact} :
    iprop(known m K ∗ hopAir c k ∗ owing (c : Thread nD τ) (due c n))
      ⊢ iprop((iprop(hopSent c k ∗ owns (c : Thread nD τ) (sW k) fullShare (msg m k c) ∗ owing (c : Thread nD τ) (due c n))
            -∗ wp frame (wpE (defs₀ (F := F)) 𝒱₀ (c : Thread nD τ) none) Set.univ (kn ⟨⟩) Q)
          -∗ wp frame (wpE (defs₀ (F := F)) 𝒱₀ (c : Thread nD τ) none) Set.univ (.op (.waitDma2 (sendS k) (rM k) (sM k) hsrc hdst) kn) Q) := by
  iintro ⟨#HK, Hh, HO⟩ Hk
  ihave #HI := (known_inv m K (c, .inr (false, k))) $$ HK
  ihave #HL := (known_lev m K) $$ HK
  unfold hopAir owing
  icases Hh with ⟨Ha1, Ha2, Hcs, Hc⟩
  icases HO with ⟨%W, HO⟩
  iapply (Rounds.wp_wait_rest_token 𝒱₀ ER (Rd m) (c : Thread nD τ) none (κ := K (c, .inr (false, k)))
      (wpE_waitDma2_eq 𝒱₀ (c : Thread nD τ) none Set.univ) (Set.mem_univ _) () (O := due c n) (W := W) (R := 0) (m := 0) (T := ∅)
      (by rw [Nat.zero_add, sM_credit k]; exact (expect_xfer m c (false, k)).symm)) $$ [Hcs HO Ha1]
  · isplitr; · iexact HI
    isplitl [Hcs]; · rw [sM_credit k]; iexact Hcs
    isplitl [HO]; · iexact HO
    isplitr
    · iapply (mayWait_due c (.dma (sendS k)) n hn (by rw [show lv ((c : Thread nD τ), .dma (sendS k)) () = 0 from lv_cell c (.inr (false, k))]; omega)); iexact HL
    iexact Ha1
  iintro ⟨HO, Ha1, -, Hpay⟩
  ihave Hs := (Entails.of_eq (rest_send m c k)) $$ Hpay
  imod (Rounds.cell_close ER (Rd m) (Set.mem_univ (K (c, .inr (false, k)))) (fun h => h) (R := 0 + 1) (duties_later m (sendCell c k))) $$ [Ha1] with Hz
  · isplitr; · iexact HI
    iexact Ha1
  iapply Hk
  unfold hopSent
  isplitl [Ha2 Hc Hz]
  · isplitl [Ha2]; · iexact Ha2
    isplitl [Hc] <;> iassumption
  isplitl [Hs]; · iexact Hs
  iexists _; iexact HO

/-- The wait on the receive cell of hop `k`: the slot at the partner's message. -/
theorem wp_hop_recv {n : ℕ} (hk : k.val + n = 5)
    {hsrc : (sM k).view.WordExact} {hdst : (rM k).view.WordExact} :
    iprop(known m K ∗ hopSent c k ∗ owing (c : Thread nD τ) (due c n))
      ⊢ iprop((iprop(hopDone c k ∗ owns (c : Thread nD τ) (rW k) fullShare (msg m k (pe k c)) ∗ owing (c : Thread nD τ) (due c n))
            -∗ wp frame (wpE (defs₀ (F := F)) 𝒱₀ (c : Thread nD τ) none) Set.univ (kn ⟨⟩) Q)
          -∗ wp frame (wpE (defs₀ (F := F)) 𝒱₀ (c : Thread nD τ) none) Set.univ (.op (.waitDma2 (recvS k) (sM k) (rM k) hsrc hdst) kn) Q) := by
  iintro ⟨#HK, Hh, HO⟩ Hk
  ihave #HI := (known_inv m K (c, .inr (true, k))) $$ HK
  ihave #HL := (known_lev m K) $$ HK
  unfold hopSent owing
  icases Hh with ⟨Ha, Hc, Hz1⟩
  icases HO with ⟨%W, HO⟩
  iapply (Rounds.wp_wait_rest_token 𝒱₀ ER (Rd m) (c : Thread nD τ) none (κ := K (c, .inr (true, k)))
      (wpE_waitDma2_eq 𝒱₀ (c : Thread nD τ) none Set.univ) (Set.mem_univ _) () (O := due c n) (W := W) (R := 0) (m := 0) (T := ∅)
      (by rw [Nat.zero_add, rM_credit k]; exact (expect_xfer m c (true, k)).symm)) $$ [Hc HO Ha]
  · isplitr; · iexact HI
    isplitl [Hc]; · rw [rM_credit k]; iexact Hc
    isplitl [HO]; · iexact HO
    isplitr
    · iapply (mayWait_due c (.dma (recvS k)) n (by omega) (by rw [show lv ((c : Thread nD τ), .dma (recvS k)) () = 2 + k.val from lv_cell c (.inr (true, k))]; omega)); iexact HL
    iexact Ha
  iintro ⟨HO, Ha, -, Hpay⟩
  ihave Hs := (Entails.of_eq (rest_recv m c k)) $$ Hpay
  imod (Rounds.cell_close ER (Rd m) (Set.mem_univ (K (c, .inr (true, k)))) (fun h => h) (R := 0 + 1) (duties_later m (recvCell c k))) $$ [Ha] with Hz
  · isplitr; · iexact HI
    iexact Ha
  iapply Hk
  unfold hopDone
  isplitl [Hz1 Hz]
  · isplitl [Hz1] <;> iassumption
  isplitl [Hs]; · iexact Hs
  iexists _; iexact HO

/-! ## A local copy -/

/-- The arrays of the input weights and of the output weights, and the slot each layer's weight is staged in. -/
abbrev wiM (l : Fin 3) : Memref sig .tc .hbm S1024x2048 .f32 := match l with
  | 0 => Memref.whole main_arg1 | 1 => Memref.whole main_arg2 | 2 => Memref.whole main_arg3
abbrev woM (l : Fin 3) : Memref sig .tc .hbm S2048x1024 .f32 := match l with
  | 0 => Memref.whole main_arg4 | 1 => Memref.whole main_arg5 | 2 => Memref.whole main_arg6
abbrev lj (l : Fin 3) : Fin 2 := match l with
  | 0 => 0 | 1 => 1 | 2 => 0

abbrev NI : ℕ := ((wiW 0).squeeze S1024x2048 squeezes_S1x1024x2048_S1024x2048).view.dmaCredit
abbrev NO : ℕ := ((woW 0).squeeze S2048x1024 squeezes_S1x2048x1024_S2048x1024).view.dmaCredit
theorem wi_credit (j : Fin 2) : ((wiW j).squeeze S1024x2048 squeezes_S1x1024x2048_S1024x2048).view.dmaCredit = NI := rfl
theorem wo_credit (j : Fin 2) : ((woW j).squeeze S2048x1024 squeezes_S1x2048x1024_S2048x1024).view.dmaCredit = NO := rfl
theorem NI_pos : 0 < NI := View.dmaCredit_pos _ (by decide)
theorem NO_pos : 0 < NO := View.dmaCredit_pos _ (by decide)

/-- Layer `l`'s input weight before and after its copy: the array, and the copy's semaphore at zero. -/
def wiIdle (l : Fin 3) : sProp 𝕄 := iprop(owns (c : Thread nD τ) (wiM l) fullShare (wi m l c) ∗ semVal ((c : Thread nD τ), .dma (wiS l)) 0)
def woIdle (l : Fin 3) : sProp 𝕄 := iprop(owns (c : Thread nD τ) (woM l) fullShare (wo m l c) ∗ semVal ((c : Thread nD τ), .dma (woS l)) 0)
/-- While it is being copied into its slot. -/
def wiFly (l : Fin 3) : sProp 𝕄 :=
  Flight EC (c : Thread nD τ) (.dma (wiS l)) () NI
    iprop(owns (c : Thread nD τ) (wiW (lj l)) fullShare (wiSlot (wi m l c)) ∗ owns (c : Thread nD τ) (wiM l) fullShare (wi m l c))
def woFly (l : Fin 3) : sProp 𝕄 :=
  Flight EC (c : Thread nD τ) (.dma (woS l)) () NO
    iprop(owns (c : Thread nD τ) (woW (lj l)) fullShare (woSlot (wo m l c)) ∗ owns (c : Thread nD τ) (woM l) fullShare (wo m l c))

theorem wp_wi_fetch (l : Fin 3) {hsrc : (wiM l).view.WordExact} {hdst : ((wiW (lj l)).squeeze S1024x2048 squeezes_S1x1024x2048_S1024x2048).view.WordExact}
    {hsem : DmaTarget.Typed (nD := nD) (τ := τ) (p := .tc) .hbm (.dma (wiS l)) (.here ((wiW (lj l)).squeeze S1024x2048 squeezes_S1x1024x2048_S1024x2048))} :
    iprop(wiIdle m c l ∗ ownsAny (c : Thread nD τ) (wiW (lj l)))
      ⊢ iprop((wiFly m c l -∗ wp frame (wpE (defs₀ (F := F)) 𝒱₀ (c : Thread nD τ) none) Set.univ (kn ⟨⟩) Q)
          -∗ wp frame (wpE (defs₀ (F := F)) 𝒱₀ (c : Thread nD τ) none) Set.univ
              (.op (.enqueueDma (wiM l) (.here ((wiW (lj l)).squeeze S1024x2048 squeezes_S1x1024x2048_S1024x2048)) (.dma (wiS l)) hsrc hdst hsem) kn) Q) := by
  iintro ⟨Hi, Hd⟩ Hk
  unfold wiIdle
  icases Hi with ⟨Hs, Hv⟩
  iapply (wp_fetch 𝒱₀ (c : Thread nD τ) none EC (src := wiM l) (m := (Memref.whole cc0_scratch0 : Memref sig .tc .vmem S2x1024x2048 .f32)) (r := wiR (lj l)) (fun _ => rfl)
    (hsq := squeezes_S1x1024x2048_S1024x2048) (sm := wiS l) NI (wi_credit (lj l)) NI_pos fullShare (wi m l c)) $$ [Hs Hd Hv]
  · iframe Hs Hd Hv
  iintro HF
  iapply Hk
  unfold wiFly wiSlot
  iexact HF

theorem wp_wi_await (l : Fin 3) {n : ℕ} (hn : n ≤ 6)
    {hsrc : (wiM l).view.WordExact} {hdst : ((wiW (lj l)).squeeze S1024x2048 squeezes_S1x1024x2048_S1024x2048).view.WordExact} :
    iprop(known m K ∗ wiFly m c l ∗ owing (c : Thread nD τ) (due c n))
      ⊢ iprop((iprop(wiIdle m c l ∗ owns (c : Thread nD τ) (wiW (lj l)) fullShare (wiSlot (wi m l c)) ∗ owing (c : Thread nD τ) (due c n))
            -∗ wp frame (wpE (defs₀ (F := F)) 𝒱₀ (c : Thread nD τ) none) Set.univ (kn ⟨⟩) Q)
          -∗ wp frame (wpE (defs₀ (F := F)) 𝒱₀ (c : Thread nD τ) none) Set.univ (.op (.waitDma2 (wiS l) (wiM l) ((wiW (lj l)).squeeze S1024x2048 squeezes_S1x1024x2048_S1024x2048) hsrc hdst) kn) Q) := by
  iintro ⟨#HK, HF, HO⟩ Hk
  ihave #HL := (known_lev m K) $$ HK
  unfold wiFly
  iapply (wp_await 𝒱₀ (c : Thread nD τ) none EC (wi_credit (lj l))) $$ [HF HO]
  · isplitl [HF]; · iexact HF
    isplitl [HO]; · iexact HO
    iapply (mayWait_local c (false, l) n hn); iexact HL
  iintro ⟨⟨Hd, Hs⟩, Hv, HO⟩
  iapply Hk
  unfold wiIdle
  iframe Hd Hs Hv HO

theorem wp_wo_fetch (l : Fin 3) {hsrc : (woM l).view.WordExact} {hdst : ((woW (lj l)).squeeze S2048x1024 squeezes_S1x2048x1024_S2048x1024).view.WordExact}
    {hsem : DmaTarget.Typed (nD := nD) (τ := τ) (p := .tc) .hbm (.dma (woS l)) (.here ((woW (lj l)).squeeze S2048x1024 squeezes_S1x2048x1024_S2048x1024))} :
    iprop(woIdle m c l ∗ ownsAny (c : Thread nD τ) (woW (lj l)))
      ⊢ iprop((woFly m c l -∗ wp frame (wpE (defs₀ (F := F)) 𝒱₀ (c : Thread nD τ) none) Set.univ (kn ⟨⟩) Q)
          -∗ wp frame (wpE (defs₀ (F := F)) 𝒱₀ (c : Thread nD τ) none) Set.univ
              (.op (.enqueueDma (woM l) (.here ((woW (lj l)).squeeze S2048x1024 squeezes_S1x2048x1024_S2048x1024)) (.dma (woS l)) hsrc hdst hsem) kn) Q) := by
  iintro ⟨Hi, Hd⟩ Hk
  unfold woIdle
  icases Hi with ⟨Hs, Hv⟩
  iapply (wp_fetch 𝒱₀ (c : Thread nD τ) none EC (src := woM l) (m := (Memref.whole cc0_scratch1 : Memref sig .tc .vmem S2x2048x1024 .f32)) (r := woR (lj l)) (fun _ => rfl)
    (hsq := squeezes_S1x2048x1024_S2048x1024) (sm := woS l) NO (wo_credit (lj l)) NO_pos fullShare (wo m l c)) $$ [Hs Hd Hv]
  · iframe Hs Hd Hv
  iintro HF
  iapply Hk
  unfold woFly woSlot
  iexact HF

theorem wp_wo_await (l : Fin 3) {n : ℕ} (hn : n ≤ 6)
    {hsrc : (woM l).view.WordExact} {hdst : ((woW (lj l)).squeeze S2048x1024 squeezes_S1x2048x1024_S2048x1024).view.WordExact} :
    iprop(known m K ∗ woFly m c l ∗ owing (c : Thread nD τ) (due c n))
      ⊢ iprop((iprop(woIdle m c l ∗ owns (c : Thread nD τ) (woW (lj l)) fullShare (woSlot (wo m l c)) ∗ owing (c : Thread nD τ) (due c n))
            -∗ wp frame (wpE (defs₀ (F := F)) 𝒱₀ (c : Thread nD τ) none) Set.univ (kn ⟨⟩) Q)
          -∗ wp frame (wpE (defs₀ (F := F)) 𝒱₀ (c : Thread nD τ) none) Set.univ (.op (.waitDma2 (woS l) (woM l) ((woW (lj l)).squeeze S2048x1024 squeezes_S1x2048x1024_S2048x1024) hsrc hdst) kn) Q) := by
  iintro ⟨#HK, HF, HO⟩ Hk
  ihave #HL := (known_lev m K) $$ HK
  unfold woFly
  iapply (wp_await 𝒱₀ (c : Thread nD τ) none EC (wo_credit (lj l))) $$ [HF HO]
  · isplitl [HF]; · iexact HF
    isplitl [HO]; · iexact HO
    iapply (mayWait_local c (true, l) n hn); iexact HL
  iintro ⟨⟨Hd, Hs⟩, Hv, HO⟩
  iapply Hk
  unfold woIdle
  iframe Hd Hs Hv HO

end Wp

end Cert.KernelIdealProof

end
-- ==== Proof.KernelIdealBody.lean ====
/-
# The body, part by part

The kernel's body is cut into thirteen parts and a tail. Each part has one theorem: from what it needs to what it
leaves, every operation one step of the exchange, of a local copy, or of a memory held by its slots. The last theorem
runs them in order.
-/
module

public import proofs.«01_k».proof.Proof.KernelIdealSchedule

@[expose] public section

set_option maxRecDepth 16384

noncomputable section

namespace Cert.KernelIdealProof

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A part of the body at the launch's buffers. -/
abbrev onBufs {β : Type*} (f :
    ∀ (a0 : Memref sig .tc .vmem S64x1024 .f32), a0.IsWhole →
    ∀ (a1 : Memref sig .tc .hbm S1024x2048 .f32), a1.IsWhole →
    ∀ (a2 : Memref sig .tc .hbm S2048x1024 .f32), a2.IsWhole →
    ∀ (a3 : Memref sig .tc .hbm S1024x2048 .f32), a3.IsWhole →
    ∀ (a4 : Memref sig .tc .hbm S2048x1024 .f32), a4.IsWhole →
    ∀ (a5 : Memref sig .tc .hbm S1024x2048 .f32), a5.IsWhole →
    ∀ (a6 : Memref sig .tc .hbm S2048x1024 .f32), a6.IsWhole →
    ∀ (a7 : Memref sig .tc .vmem S64x1024 .f32), a7.IsWhole →
    ∀ (a8 : Memref sig .tc .vmem S2x1024x2048 .f32), a8.IsWhole →
    ∀ (a9 : Memref sig .tc .vmem S2x2048x1024 .f32), a9.IsWhole →
    ∀ (a10 : Memref sig .tc .vmem S1024x2048 .bf16), a10.IsWhole →
    ∀ (a11 : Memref sig .tc .vmem S2048x1024 .bf16), a11.IsWhole →
    ∀ (a12 : Memref sig .tc .vmem S3x2x64x2048 .bf16), a12.IsWhole →
    ∀ (a13 : Memref sig .tc .vmem S3x2x64x2048 .bf16), a13.IsWhole →
    DmaSems sig S3 → DmaSems sig S3 → DmaSems sig S3x2 → DmaSems sig S3x2 → β) : β :=
  f (Memref.whole cc0_stg0_0) (Memref.isWhole_whole _) (Memref.whole main_arg1) (Memref.isWhole_whole _) (Memref.whole main_arg4) (Memref.isWhole_whole _)
    (Memref.whole main_arg2) (Memref.isWhole_whole _) (Memref.whole main_arg5) (Memref.isWhole_whole _) (Memref.whole main_arg3) (Memref.isWhole_whole _)
    (Memref.whole main_arg6) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9

variable (K : Dev nD × Cell → ℕ) (c : Dev nD)

/-- A buffer of device `c` held at `X`, or at anything. -/
abbrev at_ {s : Shape} {e : EltTy} (b : Memref sig .tc .vmem s e) (X : Vec F s e) : sProp 𝕄 := owns (c : Thread nD τ) b fullShare X
abbrev any_ {s : Shape} {e : EltTy} (b : Memref sig .tc .vmem s e) : sProp 𝕄 := ownsAny (c : Thread nD τ) b
/-- What device `c` owes with `n` hops to send. -/
abbrev owe (n : ℕ) : sProp 𝕄 := owing (c : Thread nD τ) (due c n)

/-- The barrier of device `c` before it is used: its place, the duties it pays its partners, its credit of two units,
    and its own receive slots. -/
def barNew : sProp 𝕄 :=
  iprop(atPos ER (barCell c) 0 ∅ 0 ∗ dutyTok ER (barCell (p1 c)) 0 false ∗ dutyTok ER (barCell (p2 c)) 0 true
    ∗ cred (tallyAt (barCell c) () 2) ∗ rSlots false c ∗ rSlots true c)

/-- The second layer's activation times the third input weight, as part 10 hands it on. -/
abbrev act2 : FVec F S64x2048 .bf16 :=
  k0_pay12 (msg3 m c) (msg3 m (p2 c)) (k0_pay9 (woSlot (wo m 1 c))) (k0_pay11 (wiSlot (wi m 2 c)))

/-- Part 1: the copies of the first two weights start, both partners are signalled, the device waits for both, reads its
    activations and waits for the first weight. It holds its partners' receive slots afterwards. -/
theorem part1 (Kt : (Σ' (d0 : Dev nD) (v3 : BitVec 32) (v4 : BitVec 32), FVec F S64x1024 .bf16) → sProp 𝕄) :
    iprop((known m K ∗ wiIdle m c 0 ∗ woIdle m c 0 ∗ any_ c (wiW 0) ∗ any_ c (woW 0) ∗ barNew c
          ∗ at_ c xW (xin m c) ∗ owing (c : Thread nD τ) (O₀ c))
        ∗ (∀ v3, ∀ v4, (wiIdle m c 0 ∗ at_ c (wiW 0) (wiSlot (wi m 0 c)) ∗ woFly m c 0 ∗ semVal (barCell c) 0 ∗ rSlots false (p1 c) ∗ rSlots true (p2 c)
            ∗ at_ c xW (xin m c) ∗ owe c 6) -∗ Kt ⟨c, v3, v4, k0_pay2 (xin m c)⟩))
      ⊢ wp frame (wpE (defs₀ (F := F)) 𝒱₀ (c : Thread nD τ) none) Set.univ (onBufs (k0_part1 (F := F))) Kt := by
  simp only [onBufs, k0_part1_eq_skeleton]; unfold k0_part1_skel
  simp only [semSignalWord, semWaitWord, Prog.lift, Prog.bind_op, Prog.bind_ret, Prog.pure_eq_ret, wp_deviceId, dev1_eq, dev2_eq]
  iintro ⟨⟨#HK, Hwi, Hwo, Hwi0, Hwo0, Hb, Hx, HO⟩, Hk⟩
  iapply (wp_wi_fetch m c 0) $$ [Hwi Hwi0]
  · iframe Hwi Hwi0
  iintro Hwi
  iapply (wp_wo_fetch m c 0) $$ [Hwo Hwo0]
  · iframe Hwo Hwo0
  iintro Hwo
  unfold barNew
  icases Hb with ⟨Hat, Ht1, Ht2, Hc, Hr1, Hr2⟩
  ihave #HL := (known_lev m K) $$ HK
  ihave #HI := (known_inv m K (c, .inl ())) $$ HK
  ihave #HI1 := (known_inv m K (p1 c, .inl ())) $$ HK
  ihave #HI2 := (known_inv m K (p2 c, .inl ())) $$ HK
  ihave #HR1 := (known_reached m K (p1 c, .inl ())) $$ HK
  ihave #HR2 := (known_reached m K (p2 c, .inl ())) $$ HK
  unfold owing
  icases HO with ⟨%W, HO⟩
  have hd (d : Bool) (n : Dev nD) : d ∈ (Rd (F := F) m).duties (barCell n) 0 := by rw [duties_cell]; exact Finset.mem_univ _
  have hp (d : Bool) : (Rd (F := F) m).payload (barCell (pd d c)) 0 d = rSlots d c :=
    (payload_cell m (pd d c) (.inl ()) d).trans (congrArg (rSlots d) (pd_pd d c))
  iapply (Rounds.wp_signal 𝒱₀ ER (Rd m) (c : Thread nD τ) none (dst := (p1 c : Thread nD τ)) (κ := K (p1 c, .inl ()))
      (d := false) (hd false (p1 c)) ((amount_cell m (p1 c) (.inl ()) false).trans (by decide)) () (O₁ c) rfl)
    $$ [HO Ht1 Hr1]
  · isplitr; · iexact HI1
    isplitl [HO]; · iexact HO
    isplitl [Ht1]; · iexact Ht1
    isplitl [Hr1]; · rw [show p1 c = pd false c from rfl, hp]; iexact Hr1
    iexact HR1
  iintro HO
  unfold O₁
  iapply (Rounds.wp_signal 𝒱₀ ER (Rd m) (c : Thread nD τ) none (dst := (p2 c : Thread nD τ)) (κ := K (p2 c, .inl ()))
      (d := true) (hd true (p2 c)) ((amount_cell m (p2 c) (.inl ()) true).trans (by decide)) () (due c 6) rfl)
    $$ [HO Ht2 Hr2]
  · isplitr; · iexact HI2
    isplitl [HO]; · iexact HO
    isplitl [Ht2]; · iexact Ht2
    isplitl [Hr2]; · rw [show p2 c = pd true c from rfl, hp]; iexact Hr2
    iexact HR2
  iintro HO
  iapply (Rounds.wp_wait_rest_token 𝒱₀ ER (Rd m) (c : Thread nD τ) none (κ := K (c, .inl ()))
      (wpE_semWait_eq 𝒱₀ (c : Thread nD τ) none Set.univ) (Set.mem_univ _) () (O := due c 6) (W := W) (R := 0) (m := 0) (T := ∅)
      (by rw [show (Rd (F := F) m).expect ((c : Thread nD τ), SemLoc.reg barS) 0 = 2 from expect_bar m c]; decide)) $$ [Hc HO Hat]
  · isplitr; · iexact HI
    isplitl [Hc]; · iexact Hc
    isplitl [HO]; · iexact HO
    isplitr
    · iapply (mayWait_due c (.reg barS) 6 (by decide) (by rw [show lv ((c : Thread nD τ), .reg barS) () = 1 from lv_cell c (.inl ())])); iexact HL
    iexact Hat
  iintro ⟨HO, Hat, -, Hpay⟩
  ihave Hp := (Entails.of_eq (rest_bar m c)) $$ Hpay
  icases Hp with ⟨Hr1, Hr2⟩
  imod (Rounds.cell_close ER (Rd m) (Set.mem_univ (K (c, .inl ()))) (fun h => h) (R := 0 + 1) (duties_later m (barCell c))) $$ [Hat] with Hz
  · isplitr; · iexact HI
    iexact Hat
  iapply (wp_load_owns 𝒱₀ (c : Thread nD τ) none (fun _ => rfl) fullShare _) $$ Hx; iintro Hx
  iapply (wp_wi_await m K c 0 (n := 6) (by decide)) $$ [Hwi HO]
  · isplitr; · iexact HK
    isplitl [Hwi]; · iexact Hwi
    unfold owing; iexists _; iexact HO
  iintro ⟨Hwi, Hwi0, HO⟩
  rw [wp_ret]; imodintro
  iapply Hk
  iframe Hwi Hwi0 Hwo Hz Hr1 Hr2 Hx HO

/-- Part 2: the first weight is rounded, the second starts, the first partial product is sent on hop 0. -/
theorem part2 (v3 : BitVec 32) (Kt : PUnit → sProp 𝕄) :
    iprop((known m K ∗ at_ c (wiW 0) (wiSlot (wi m 0 c)) ∗ any_ c biW ∗ wiIdle m c 1 ∗ any_ c (wiW 1) ∗ any_ c (sW 0)
          ∗ hopNew c 0 ∗ any_ (p1 c) (rW 0) ∗ owe c 6)
        ∗ ((any_ c (wiW 0) ∗ any_ c biW ∗ wiFly m c 1 ∗ hopAir c 0 ∗ owe c 5) -∗ Kt ⟨⟩))
      ⊢ wp frame (wpE (defs₀ (F := F)) 𝒱₀ (c : Thread nD τ) none) Set.univ ((onBufs (k0_part2 (F := F))) c v3 (k0_pay2 (xin m c))) Kt := by
  simp only [onBufs, k0_part2_eq_skeleton]; unfold k0_part2_skel
  simp only [Prog.lift, Prog.bind_op, Prog.bind_ret, Prog.pure_eq_ret]
  iintro ⟨⟨#HK, Hwi, Hbi, Hidle, Hwi1, Hs, Hh, Hr, HO⟩, Hk⟩
  iapply (wp_load_owns 𝒱₀ (c : Thread nD τ) none (fun _ => rfl) fullShare _) $$ Hwi; iintro Hwi
  iapply (wp_load_any 𝒱₀ (c : Thread nD τ) none (fun _ => rfl)) $$ Hbi; iintro %v1 Hbi
  iapply (wp_store_owns 𝒱₀ (c : Thread nD τ) none (fun _ => rfl)) $$ Hbi; iintro Hbi
  iapply (wp_wi_fetch m c 1) $$ [Hidle Hwi1]
  · iframe Hidle Hwi1
  iintro Hfly
  iapply (wp_load_owns 𝒱₀ (c : Thread nD τ) none (fun _ => rfl) fullShare _) $$ Hbi; iintro Hbi
  iapply (wp_load_any 𝒱₀ (c : Thread nD τ) none (fun _ => rfl)) $$ Hs; iintro %v2 Hs
  iapply (wp_store_owns 𝒱₀ (c : Thread nD τ) none (fun _ => rfl)) $$ Hs; iintro Hs
  iapply (wp_hop_send m K c 0 (n := 5) rfl (dev3_eq c)) $$ [Hh Hs Hr HO]
  · iframe HK Hh Hs Hr HO
  iintro ⟨Hh, HO⟩
  rw [wp_ret]; imodintro
  iapply Hk
  ihave Hwi' := (ownsAny_of (c : Thread nD τ) (wiW 0) _) $$ Hwi
  ihave Hbi' := (ownsAny_of (c : Thread nD τ) biW _) $$ Hbi
  iframe Hwi' Hbi' Hfly Hh HO

/-- Part 3: the first output weight arrives and is rounded, the second starts; hop 0 has been sent. -/
theorem part3 (v3 : BitVec 32) (Kt : PUnit → sProp 𝕄) :
    iprop((known m K ∗ woFly m c 0 ∗ any_ c boW ∗ woIdle m c 1 ∗ any_ c (woW 1) ∗ hopAir c 0 ∗ owe c 5)
        ∗ ((woIdle m c 0 ∗ any_ c (woW 0) ∗ at_ c boW (k0_pay5 (woSlot (wo m 0 c))) ∗ woFly m c 1 ∗ hopSent c 0 ∗ at_ c (sW 0) (msg0 m c) ∗ owe c 5) -∗ Kt ⟨⟩))
      ⊢ wp frame (wpE (defs₀ (F := F)) 𝒱₀ (c : Thread nD τ) none) Set.univ ((onBufs (k0_part3 (F := F))) v3) Kt := by
  simp only [onBufs, k0_part3_eq_skeleton]; unfold k0_part3_skel
  simp only [Prog.lift, Prog.bind_op, Prog.bind_ret, Prog.pure_eq_ret]
  iintro ⟨⟨#HK, Hwo, Hbo, Hidle, Hwo1, Hh, HO⟩, Hk⟩
  iapply (wp_wo_await m K c 0 (n := 5) (by decide)) $$ [Hwo HO]
  · iframe HK Hwo HO
  iintro ⟨Hi0, Hwo0, HO⟩
  iapply (wp_load_owns 𝒱₀ (c : Thread nD τ) none (fun _ => rfl) fullShare _) $$ Hwo0; iintro Hwo0
  iapply (wp_load_any 𝒱₀ (c : Thread nD τ) none (fun _ => rfl)) $$ Hbo; iintro %v1 Hbo
  iapply (wp_store_owns 𝒱₀ (c : Thread nD τ) none (fun _ => rfl)) $$ Hbo; iintro Hbo
  iapply (wp_wo_fetch m c 1) $$ [Hidle Hwo1]
  · iframe Hidle Hwo1
  iintro Hfly
  iapply (wp_hop_sent m K c 0 (n := 5) (by decide)) $$ [Hh HO]
  · iframe HK Hh HO
  iintro ⟨Hh, Hs, HO⟩
  rw [wp_ret]; imodintro
  iapply Hk
  ihave Hwo0' := (ownsAny_of (c : Thread nD τ) (woW 0) _) $$ Hwo0
  iframe Hi0 Hwo0' Hbo Hfly Hh Hs HO

/-- Part 4: hop 0 is received; the sum of both messages is sent on hop 1. -/
theorem part4 (v4 : BitVec 32) (Kt : PUnit → sProp 𝕄) :
    iprop((known m K ∗ hopSent c 0 ∗ at_ c (sW 0) (msg0 m c) ∗ any_ c (sW 1) ∗ hopNew c 1 ∗ any_ (p2 c) (rW 1) ∗ owe c 5)
        ∗ ((hopDone c 0 ∗ any_ c (sW 0) ∗ any_ c (rW 0) ∗ hopAir c 1 ∗ owe c 4) -∗ Kt ⟨⟩))
      ⊢ wp frame (wpE (defs₀ (F := F)) 𝒱₀ (c : Thread nD τ) none) Set.univ ((onBufs (k0_part4 (F := F))) c v4) Kt := by
  simp only [onBufs, k0_part4_eq_skeleton]; unfold k0_part4_skel
  simp only [Prog.lift, Prog.bind_op, Prog.bind_ret, Prog.pure_eq_ret]
  iintro ⟨⟨#HK, Hh, Hs0, Hs1, Hh1, Hr1, HO⟩, Hk⟩
  iapply (wp_hop_recv m K c 0 (n := 5) rfl) $$ [Hh HO]
  · iframe HK Hh HO
  iintro ⟨Hh, Hr0, HO⟩
  iapply (wp_load_owns 𝒱₀ (c : Thread nD τ) none (fun _ => rfl) fullShare _) $$ Hs0; iintro Hs0
  iapply (wp_load_owns 𝒱₀ (c : Thread nD τ) none (fun _ => rfl) fullShare _) $$ Hr0; iintro Hr0
  iapply (wp_load_any 𝒱₀ (c : Thread nD τ) none (fun _ => rfl)) $$ Hs1; iintro %v1 Hs1
  iapply (wp_store_owns 𝒱₀ (c : Thread nD τ) none (fun _ => rfl)) $$ Hs1; iintro Hs1
  iapply (wp_hop_send m K c 1 (n := 4) rfl (dev4_eq c)) $$ [Hh1 Hs1 Hr1 HO]
  · iframe HK Hh1 Hs1 Hr1 HO
  iintro ⟨Hh1, HO⟩
  rw [wp_ret]; imodintro
  iapply Hk
  ihave Hs0' := (ownsAny_of (c : Thread nD τ) (sW 0) _) $$ Hs0
  ihave Hr0' := (ownsAny_of (c : Thread nD τ) (rW 0) _) $$ Hr0
  iframe Hh Hs0' Hr0' Hh1 HO

/-- Part 5: the second input weight arrives and is rounded, the third starts; hop 1 has been sent. -/
theorem part5 (v4 : BitVec 32) (Kt : BitVec 32 → sProp 𝕄) :
    iprop((known m K ∗ wiFly m c 1 ∗ any_ c biW ∗ wiIdle m c 2 ∗ any_ c (wiW 0) ∗ hopAir c 1 ∗ owe c 4)
        ∗ (∀ w, (wiIdle m c 1 ∗ any_ c (wiW 1) ∗ at_ c biW (k0_pay7 (wiSlot (wi m 1 c))) ∗ wiFly m c 2 ∗ hopSent c 1 ∗ at_ c (sW 1) (msg1 m c) ∗ owe c 4) -∗ Kt w))
      ⊢ wp frame (wpE (defs₀ (F := F)) 𝒱₀ (c : Thread nD τ) none) Set.univ ((onBufs (k0_part5 (F := F))) v4) Kt := by
  simp only [onBufs, k0_part5_eq_skeleton]; unfold k0_part5_skel
  simp only [Prog.lift, Prog.bind_op, Prog.bind_ret, Prog.pure_eq_ret]
  iintro ⟨⟨#HK, Hf, Hbi, Hidle, Hwi0, Hh, HO⟩, Hk⟩
  iapply (wp_wi_await m K c 1 (n := 4) (by decide)) $$ [Hf HO]
  · iframe HK Hf HO
  iintro ⟨Hi1, Hwi1, HO⟩
  iapply (wp_load_owns 𝒱₀ (c : Thread nD τ) none (fun _ => rfl) fullShare _) $$ Hwi1; iintro Hwi1
  iapply (wp_load_any 𝒱₀ (c : Thread nD τ) none (fun _ => rfl)) $$ Hbi; iintro %v1 Hbi
  iapply (wp_store_owns 𝒱₀ (c : Thread nD τ) none (fun _ => rfl)) $$ Hbi; iintro Hbi
  iapply (wp_wi_fetch m c 2) $$ [Hidle Hwi0]
  · iframe Hidle Hwi0
  iintro Hfly
  iapply (wp_hop_sent m K c 1 (n := 4) (by decide)) $$ [Hh HO]
  · iframe HK Hh HO
  iintro ⟨Hh, Hs, HO⟩
  rw [wp_ret]; imodintro
  iapply Hk
  ihave Hwi1' := (ownsAny_of (c : Thread nD τ) (wiW 1) _) $$ Hwi1
  iframe Hi1 Hwi1' Hbi Hfly Hh Hs HO

/-- Part 6: hop 1 is received; the first layer's activation meets the second input weight. -/
theorem part6 (w : BitVec 32) (Kt : PUnit → sProp 𝕄) :
    iprop((known m K ∗ hopSent c 1 ∗ at_ c (sW 1) (msg1 m c) ∗ at_ c boW (k0_pay5 (woSlot (wo m 0 c))) ∗ at_ c biW (k0_pay7 (wiSlot (wi m 1 c)))
          ∗ any_ c (sW 2) ∗ owe c 4)
        ∗ ((hopDone c 1 ∗ any_ c (sW 1) ∗ any_ c (rW 1) ∗ any_ c boW ∗ any_ c biW ∗ at_ c (sW 2) (msg2 m c) ∗ owe c 4) -∗ Kt ⟨⟩))
      ⊢ wp frame (wpE (defs₀ (F := F)) 𝒱₀ (c : Thread nD τ) none) Set.univ ((onBufs (k0_part6 (F := F))) w) Kt := by
  simp only [onBufs, k0_part6_eq_skeleton]; unfold k0_part6_skel
  simp only [Prog.lift, Prog.bind_op, Prog.bind_ret, Prog.pure_eq_ret]
  iintro ⟨⟨#HK, Hh, Hs1, Hbo, Hbi, Hs2, HO⟩, Hk⟩
  iapply (wp_hop_recv m K c 1 (n := 4) rfl) $$ [Hh HO]
  · iframe HK Hh HO
  iintro ⟨Hh, Hr1, HO⟩
  iapply (wp_load_owns 𝒱₀ (c : Thread nD τ) none (fun _ => rfl) fullShare _) $$ Hs1; iintro Hs1
  iapply (wp_load_owns 𝒱₀ (c : Thread nD τ) none (fun _ => rfl) fullShare _) $$ Hr1; iintro Hr1
  iapply (wp_load_owns 𝒱₀ (c : Thread nD τ) none (fun _ => rfl) fullShare _) $$ Hbo; iintro Hbo
  iapply (wp_load_owns 𝒱₀ (c : Thread nD τ) none (fun _ => rfl) fullShare _) $$ Hbi; iintro Hbi
  iapply (wp_load_any 𝒱₀ (c : Thread nD τ) none (fun _ => rfl)) $$ Hs2; iintro %v1 Hs2
  iapply (wp_store_owns 𝒱₀ (c : Thread nD τ) none (fun _ => rfl)) $$ Hs2; iintro Hs2
  rw [wp_ret]; imodintro
  iapply Hk
  ihave Hs1' := (ownsAny_of (c : Thread nD τ) (sW 1) _) $$ Hs1
  ihave Hr1' := (ownsAny_of (c : Thread nD τ) (rW 1) _) $$ Hr1
  ihave Hbo' := (ownsAny_of (c : Thread nD τ) boW _) $$ Hbo
  ihave Hbi' := (ownsAny_of (c : Thread nD τ) biW _) $$ Hbi
  iframe Hh Hs1' Hr1' Hbo' Hbi' Hs2 HO

/-- Part 7: hop 2 is sent; the second output weight arrives and is rounded, the third starts. -/
theorem part7 (v3 : BitVec 32) (Kt : PUnit → sProp 𝕄) :
    iprop((known m K ∗ at_ c (sW 2) (msg2 m c) ∗ hopNew c 2 ∗ any_ (p1 c) (rW 2) ∗ owe c 4 ∗ woFly m c 1 ∗ any_ c boW ∗ woIdle m c 2 ∗ any_ c (woW 0))
        ∗ ((hopAir c 2 ∗ owe c 3 ∗ woIdle m c 1 ∗ any_ c (woW 1) ∗ at_ c boW (k0_pay9 (woSlot (wo m 1 c))) ∗ woFly m c 2) -∗ Kt ⟨⟩))
      ⊢ wp frame (wpE (defs₀ (F := F)) 𝒱₀ (c : Thread nD τ) none) Set.univ ((onBufs (k0_part7 (F := F))) c v3) Kt := by
  simp only [onBufs, k0_part7_eq_skeleton]; unfold k0_part7_skel
  simp only [Prog.lift, Prog.bind_op, Prog.bind_ret, Prog.pure_eq_ret]
  iintro ⟨⟨#HK, Hs, Hh, Hr, HO, Hf, Hbo, Hidle, Hwo0⟩, Hk⟩
  iapply (wp_hop_send m K c 2 (n := 3) rfl (dev5_eq c)) $$ [Hh Hs Hr HO]
  · iframe HK Hh Hs Hr HO
  iintro ⟨Hh, HO⟩
  iapply (wp_wo_await m K c 1 (n := 3) (by decide)) $$ [Hf HO]
  · iframe HK Hf HO
  iintro ⟨Hi1, Hwo1, HO⟩
  iapply (wp_load_owns 𝒱₀ (c : Thread nD τ) none (fun _ => rfl) fullShare _) $$ Hwo1; iintro Hwo1
  iapply (wp_load_any 𝒱₀ (c : Thread nD τ) none (fun _ => rfl)) $$ Hbo; iintro %v1 Hbo
  iapply (wp_store_owns 𝒱₀ (c : Thread nD τ) none (fun _ => rfl)) $$ Hbo; iintro Hbo
  iapply (wp_wo_fetch m c 2) $$ [Hidle Hwo0]
  · iframe Hidle Hwo0
  iintro Hfly
  rw [wp_ret]; imodintro
  iapply Hk
  ihave Hwo1' := (ownsAny_of (c : Thread nD τ) (woW 1) _) $$ Hwo1
  iframe Hh HO Hi1 Hwo1' Hbo Hfly

/-- Part 8: hop 2 is sent and received; the sum of both messages is made for hop 3. -/
theorem part8 (v3 : BitVec 32) (Kt : PUnit → sProp 𝕄) :
    iprop((known m K ∗ hopAir c 2 ∗ any_ c (sW 3) ∗ owe c 3)
        ∗ ((hopDone c 2 ∗ any_ c (sW 2) ∗ any_ c (rW 2) ∗ at_ c (sW 3) (msg3 m c) ∗ owe c 3) -∗ Kt ⟨⟩))
      ⊢ wp frame (wpE (defs₀ (F := F)) 𝒱₀ (c : Thread nD τ) none) Set.univ ((onBufs (k0_part8 (F := F))) v3) Kt := by
  simp only [onBufs, k0_part8_eq_skeleton]; unfold k0_part8_skel
  simp only [Prog.lift, Prog.bind_op, Prog.bind_ret, Prog.pure_eq_ret]
  iintro ⟨⟨#HK, Hh, Hs3, HO⟩, Hk⟩
  iapply (wp_hop_sent m K c 2 (n := 3) (by decide)) $$ [Hh HO]
  · iframe HK Hh HO
  iintro ⟨Hh, Hs2, HO⟩
  iapply (wp_hop_recv m K c 2 (n := 3) rfl) $$ [Hh HO]
  · iframe HK Hh HO
  iintro ⟨Hh, Hr2, HO⟩
  iapply (wp_load_owns 𝒱₀ (c : Thread nD τ) none (fun _ => rfl) fullShare _) $$ Hs2; iintro Hs2
  iapply (wp_load_owns 𝒱₀ (c : Thread nD τ) none (fun _ => rfl) fullShare _) $$ Hr2; iintro Hr2
  iapply (wp_load_any 𝒱₀ (c : Thread nD τ) none (fun _ => rfl)) $$ Hs3; iintro %v1 Hs3
  iapply (wp_store_owns 𝒱₀ (c : Thread nD τ) none (fun _ => rfl)) $$ Hs3; iintro Hs3
  rw [wp_ret]; imodintro
  iapply Hk
  ihave Hs2' := (ownsAny_of (c : Thread nD τ) (sW 2) _) $$ Hs2
  ihave Hr2' := (ownsAny_of (c : Thread nD τ) (rW 2) _) $$ Hr2
  iframe Hh Hs2' Hr2' Hs3 HO

/-- Part 9: hop 3 is sent; the third input weight arrives and is rounded. -/
theorem part9 (v4 : BitVec 32) (Kt : PUnit → sProp 𝕄) :
    iprop((known m K ∗ at_ c (sW 3) (msg3 m c) ∗ hopNew c 3 ∗ any_ (p2 c) (rW 3) ∗ owe c 3 ∗ wiFly m c 2 ∗ any_ c biW)
        ∗ ((hopSent c 3 ∗ at_ c (sW 3) (msg3 m c) ∗ owe c 2 ∗ wiIdle m c 2 ∗ any_ c (wiW 0) ∗ at_ c biW (k0_pay11 (wiSlot (wi m 2 c)))) -∗ Kt ⟨⟩))
      ⊢ wp frame (wpE (defs₀ (F := F)) 𝒱₀ (c : Thread nD τ) none) Set.univ ((onBufs (k0_part9 (F := F))) c v4) Kt := by
  simp only [onBufs, k0_part9_eq_skeleton]; unfold k0_part9_skel
  simp only [Prog.lift, Prog.bind_op, Prog.bind_ret, Prog.pure_eq_ret]
  iintro ⟨⟨#HK, Hs, Hh, Hr, HO, Hf, Hbi⟩, Hk⟩
  iapply (wp_hop_send m K c 3 (n := 2) rfl (dev6_eq c)) $$ [Hh Hs Hr HO]
  · iframe HK Hh Hs Hr HO
  iintro ⟨Hh, HO⟩
  iapply (wp_wi_await m K c 2 (n := 2) (by decide)) $$ [Hf HO]
  · iframe HK Hf HO
  iintro ⟨Hi2, Hwi0, HO⟩
  iapply (wp_load_owns 𝒱₀ (c : Thread nD τ) none (fun _ => rfl) fullShare _) $$ Hwi0; iintro Hwi0
  iapply (wp_load_any 𝒱₀ (c : Thread nD τ) none (fun _ => rfl)) $$ Hbi; iintro %v1 Hbi
  iapply (wp_store_owns 𝒱₀ (c : Thread nD τ) none (fun _ => rfl)) $$ Hbi; iintro Hbi
  iapply (wp_hop_sent m K c 3 (n := 2) (by decide)) $$ [Hh HO]
  · iframe HK Hh HO
  iintro ⟨Hh, Hs, HO⟩
  rw [wp_ret]; imodintro
  iapply Hk
  ihave Hwi0' := (ownsAny_of (c : Thread nD τ) (wiW 0) _) $$ Hwi0
  iframe Hh Hs HO Hi2 Hwi0' Hbi

/-- Part 10: hop 3 is received; the second layer's activation meets the third input weight. -/
theorem part10 (v4 : BitVec 32) (Kt : FVec F S64x2048 .bf16 → sProp 𝕄) :
    iprop((known m K ∗ hopSent c 3 ∗ at_ c (sW 3) (msg3 m c) ∗ at_ c boW (k0_pay9 (woSlot (wo m 1 c))) ∗ at_ c biW (k0_pay11 (wiSlot (wi m 2 c)))
          ∗ any_ c (sW 4) ∗ owe c 2)
        ∗ ((hopDone c 3 ∗ any_ c (sW 3) ∗ any_ c (rW 3) ∗ any_ c boW ∗ any_ c biW ∗ any_ c (sW 4) ∗ owe c 2) -∗ Kt (act2 m c)))
      ⊢ wp frame (wpE (defs₀ (F := F)) 𝒱₀ (c : Thread nD τ) none) Set.univ ((onBufs (k0_part10 (F := F))) v4) Kt := by
  simp only [onBufs, k0_part10_eq_skeleton]; unfold k0_part10_skel
  simp only [Prog.lift, Prog.bind_op, Prog.bind_ret, Prog.pure_eq_ret]
  iintro ⟨⟨#HK, Hh, Hs3, Hbo, Hbi, Hs4, HO⟩, Hk⟩
  iapply (wp_hop_recv m K c 3 (n := 2) rfl) $$ [Hh HO]
  · iframe HK Hh HO
  iintro ⟨Hh, Hr3, HO⟩
  iapply (wp_load_owns 𝒱₀ (c : Thread nD τ) none (fun _ => rfl) fullShare _) $$ Hs3; iintro Hs3
  iapply (wp_load_owns 𝒱₀ (c : Thread nD τ) none (fun _ => rfl) fullShare _) $$ Hr3; iintro Hr3
  iapply (wp_load_owns 𝒱₀ (c : Thread nD τ) none (fun _ => rfl) fullShare _) $$ Hbo; iintro Hbo
  iapply (wp_load_owns 𝒱₀ (c : Thread nD τ) none (fun _ => rfl) fullShare _) $$ Hbi; iintro Hbi
  iapply (wp_load_any 𝒱₀ (c : Thread nD τ) none (fun _ => rfl)) $$ Hs4; iintro %v1 Hs4
  rw [wp_ret]; imodintro
  rw [show msg m 3 (pe 3 c) = msg3 m (p2 c) from rfl]
  iapply Hk
  ihave Hs3' := (ownsAny_of (c : Thread nD τ) (sW 3) _) $$ Hs3
  ihave Hr3' := (ownsAny_of (c : Thread nD τ) (rW 3) _) $$ Hr3
  ihave Hbo' := (ownsAny_of (c : Thread nD τ) boW _) $$ Hbo
  ihave Hbi' := (ownsAny_of (c : Thread nD τ) biW _) $$ Hbi
  iframe Hh Hs3' Hr3' Hbo' Hbi' Hs4 HO

/-- Part 11: hop 4 is sent; the third output weight arrives and is rounded. -/
theorem part11 (v3 : BitVec 32) (Kt : PUnit → sProp 𝕄) :
    iprop((known m K ∗ any_ c (sW 4) ∗ hopNew c 4 ∗ any_ (p1 c) (rW 4) ∗ owe c 2 ∗ woFly m c 2 ∗ any_ c boW)
        ∗ ((hopAir c 4 ∗ owe c 1 ∗ woIdle m c 2 ∗ any_ c (woW 0) ∗ at_ c boW (k0_pay14 (woSlot (wo m 2 c)))) -∗ Kt ⟨⟩))
      ⊢ wp frame (wpE (defs₀ (F := F)) 𝒱₀ (c : Thread nD τ) none) Set.univ ((onBufs (k0_part11 (F := F))) c v3 (act2 m c)) Kt := by
  simp only [onBufs, k0_part11_eq_skeleton]; unfold k0_part11_skel
  simp only [Prog.lift, Prog.bind_op, Prog.bind_ret, Prog.pure_eq_ret]
  iintro ⟨⟨#HK, Hs, Hh, Hr, HO, Hf, Hbo⟩, Hk⟩
  iapply (wp_store_owns 𝒱₀ (c : Thread nD τ) none (fun _ => rfl)) $$ Hs; iintro Hs
  iapply (wp_hop_send m K c 4 (n := 1) rfl (dev7_eq c)) $$ [Hh Hs Hr HO]
  · iframe HK Hh Hs Hr HO
  iintro ⟨Hh, HO⟩
  iapply (wp_wo_await m K c 2 (n := 1) (by decide)) $$ [Hf HO]
  · iframe HK Hf HO
  iintro ⟨Hi2, Hwo0, HO⟩
  iapply (wp_load_owns 𝒱₀ (c : Thread nD τ) none (fun _ => rfl) fullShare _) $$ Hwo0; iintro Hwo0
  iapply (wp_load_any 𝒱₀ (c : Thread nD τ) none (fun _ => rfl)) $$ Hbo; iintro %v1 Hbo
  iapply (wp_store_owns 𝒱₀ (c : Thread nD τ) none (fun _ => rfl)) $$ Hbo; iintro Hbo
  rw [wp_ret]; imodintro
  iapply Hk
  ihave Hwo0' := (ownsAny_of (c : Thread nD τ) (woW 0) _) $$ Hwo0
  iframe Hh HO Hi2 Hwo0' Hbo

/-- Part 12: hop 4 is sent and received; the sum of both messages is made for hop 5. -/
theorem part12 (v3 : BitVec 32) (Kt : PUnit → sProp 𝕄) :
    iprop((known m K ∗ hopAir c 4 ∗ any_ c (sW 5) ∗ owe c 1)
        ∗ ((hopDone c 4 ∗ any_ c (sW 4) ∗ any_ c (rW 4) ∗ at_ c (sW 5) (msg5 m c) ∗ owe c 1) -∗ Kt ⟨⟩))
      ⊢ wp frame (wpE (defs₀ (F := F)) 𝒱₀ (c : Thread nD τ) none) Set.univ ((onBufs (k0_part12 (F := F))) v3) Kt := by
  simp only [onBufs, k0_part12_eq_skeleton]; unfold k0_part12_skel
  simp only [Prog.lift, Prog.bind_op, Prog.bind_ret, Prog.pure_eq_ret]
  iintro ⟨⟨#HK, Hh, Hs5, HO⟩, Hk⟩
  iapply (wp_hop_sent m K c 4 (n := 1) (by decide)) $$ [Hh HO]
  · iframe HK Hh HO
  iintro ⟨Hh, Hs4, HO⟩
  iapply (wp_hop_recv m K c 4 (n := 1) rfl) $$ [Hh HO]
  · iframe HK Hh HO
  iintro ⟨Hh, Hr4, HO⟩
  iapply (wp_load_owns 𝒱₀ (c : Thread nD τ) none (fun _ => rfl) fullShare _) $$ Hs4; iintro Hs4
  iapply (wp_load_owns 𝒱₀ (c : Thread nD τ) none (fun _ => rfl) fullShare _) $$ Hr4; iintro Hr4
  iapply (wp_load_any 𝒱₀ (c : Thread nD τ) none (fun _ => rfl)) $$ Hs5; iintro %v1 Hs5
  iapply (wp_store_owns 𝒱₀ (c : Thread nD τ) none (fun _ => rfl)) $$ Hs5; iintro Hs5
  rw [wp_ret]; imodintro
  iapply Hk
  ihave Hs4' := (ownsAny_of (c : Thread nD τ) (sW 4) _) $$ Hs4
  ihave Hr4' := (ownsAny_of (c : Thread nD τ) (rW 4) _) $$ Hr4
  iframe Hh Hs4' Hr4' Hs5 HO

/-- Part 13: hop 5 is sent. -/
theorem part13 (v4 : BitVec 32) (Kt : PUnit → sProp 𝕄) :
    iprop((known m K ∗ at_ c (sW 5) (msg5 m c) ∗ hopNew c 5 ∗ any_ (p2 c) (rW 5) ∗ owe c 1)
        ∗ ((hopSent c 5 ∗ at_ c (sW 5) (msg5 m c) ∗ owe c 0) -∗ Kt ⟨⟩))
      ⊢ wp frame (wpE (defs₀ (F := F)) 𝒱₀ (c : Thread nD τ) none) Set.univ ((onBufs (k0_part13 (F := F))) c v4) Kt := by
  simp only [onBufs, k0_part13_eq_skeleton]; unfold k0_part13_skel
  simp only [Prog.lift, Prog.bind_op, Prog.bind_ret, Prog.pure_eq_ret]
  iintro ⟨⟨#HK, Hs, Hh, Hr, HO⟩, Hk⟩
  iapply (wp_hop_send m K c 5 (n := 0) rfl (dev8_eq c)) $$ [Hh Hs Hr HO]
  · iframe HK Hh Hs Hr HO
  iintro ⟨Hh, HO⟩
  iapply (wp_hop_sent m K c 5 (n := 0) (by decide)) $$ [Hh HO]
  · iframe HK Hh HO
  iintro ⟨Hh, Hs, HO⟩
  rw [wp_ret]; imodintro
  iapply Hk
  iframe Hh Hs HO

/-- The tail: hop 5 is received and the result stored. -/
theorem tail (Kt : PUnit → sProp 𝕄) {hl1 hl2 hl3 hl4 hx hm hs hd} :
    iprop((known m K ∗ hopSent c 5 ∗ at_ c (sW 5) (msg5 m c) ∗ at_ c boW (k0_pay14 (woSlot (wo m 2 c))) ∗ any_ c outW ∗ owe c 0)
        ∗ ((hopDone c 5 ∗ any_ c (sW 5) ∗ any_ c (rW 5) ∗ any_ c boW ∗ at_ c outW (outAt m c) ∗ owe c 0) -∗ Kt ⟨⟩))
      ⊢ wp frame (wpE (defs₀ (F := F)) 𝒱₀ (c : Thread nD τ) none) Set.univ
          (.op (.waitDma2 (recvS 5) (sM 5) (rM 5) hs hd) fun _ =>
            .op (.load (Memref.whole cc0_scratch4) (hopR 5).toLoadRect hl1) fun v318 =>
            .op (.load (Memref.whole cc0_scratch5) (hopR 5).toLoadRect hl2) fun v321 =>
            .op (.load (Memref.whole cc0_scratch3) (Rect.unit (s := S2048x1024) ![0, 0] S2048x1024.size inb_S2048x1024_S2048x1024_0_0).toLoadRect hl3) fun v328 =>
            .op (.load (Memref.whole cc0_stg1_0) (Rect.unit (s := S64x1024) ![0, 0] S64x1024.size inb_S64x1024_S64x1024_0_0).toLoadRect hl4) fun _ =>
            .op (.store (Memref.whole cc0_stg1_0) (Rect.unit (s := S64x1024) ![0, 0] S64x1024.size inb_S64x1024_S64x1024_0_0)
              (k0_pay1 v318 v321 v328) Finset.univ hx hm) fun _ => .ret ⟨⟩) Kt := by
  iintro ⟨⟨#HK, Hh, Hs, Hbo, Ho, HO⟩, Hk⟩
  iapply (wp_hop_recv m K c 5 (n := 0) rfl) $$ [Hh HO]
  · iframe HK Hh HO
  iintro ⟨Hh, Hr, HO⟩
  iapply (wp_load_owns 𝒱₀ (c : Thread nD τ) none (fun _ => rfl) fullShare _) $$ Hs; iintro Hs
  iapply (wp_load_owns 𝒱₀ (c : Thread nD τ) none (fun _ => rfl) fullShare _) $$ Hr; iintro Hr
  iapply (wp_load_owns 𝒱₀ (c : Thread nD τ) none (fun _ => rfl) fullShare _) $$ Hbo; iintro Hbo
  iapply (wp_load_any 𝒱₀ (c : Thread nD τ) none (fun _ => rfl)) $$ Ho; iintro %v1 Ho
  iapply (wp_store_owns 𝒱₀ (c : Thread nD τ) none (fun _ => rfl)) $$ Ho; iintro Ho
  rw [wp_ret]; imodintro
  iapply Hk
  ihave Hs' := (ownsAny_of (c : Thread nD τ) (sW 5) _) $$ Hs
  ihave Hr' := (ownsAny_of (c : Thread nD τ) (rW 5) _) $$ Hr
  ihave Hbo' := (ownsAny_of (c : Thread nD τ) boW _) $$ Hbo
  iframe Hh Hs' Hr' Hbo' Ho HO

/-- What the body starts from: the weights, their slots, the send slots, the barrier, the hops, the staged input, the
    output block at anything, and everything device `c` owes. -/
def atStart : sProp 𝕄 :=
  iprop((wiIdle m c 0 ∗ wiIdle m c 1 ∗ wiIdle m c 2) ∗ (woIdle m c 0 ∗ woIdle m c 1 ∗ woIdle m c 2)
    ∗ (any_ c (wiW 0) ∗ any_ c (wiW 1)) ∗ (any_ c (woW 0) ∗ any_ c (woW 1)) ∗ any_ c biW ∗ any_ c boW
    ∗ (any_ c (sW 0) ∗ any_ c (sW 1) ∗ any_ c (sW 2) ∗ any_ c (sW 3) ∗ any_ c (sW 4) ∗ any_ c (sW 5))
    ∗ barNew c ∗ (hopNew c 0 ∗ hopNew c 1 ∗ hopNew c 2 ∗ hopNew c 3 ∗ hopNew c 4 ∗ hopNew c 5)
    ∗ at_ c xW (xin m c) ∗ any_ c outW ∗ owing (c : Thread nD τ) (O₀ c))

/-- What the body leaves: the same memories, the barrier and the hops used up, the output block holding the result,
    nothing owed. -/
def atEnd : sProp 𝕄 :=
  iprop((wiIdle m c 0 ∗ wiIdle m c 1 ∗ wiIdle m c 2) ∗ (woIdle m c 0 ∗ woIdle m c 1 ∗ woIdle m c 2)
    ∗ (any_ c (wiW 0) ∗ any_ c (wiW 1)) ∗ (any_ c (woW 0) ∗ any_ c (woW 1)) ∗ any_ c biW ∗ any_ c boW
    ∗ (any_ c (sW 0) ∗ any_ c (sW 1) ∗ any_ c (sW 2) ∗ any_ c (sW 3) ∗ any_ c (sW 4) ∗ any_ c (sW 5))
    ∗ (any_ c (rW 0) ∗ any_ c (rW 1) ∗ any_ c (rW 2) ∗ any_ c (rW 3) ∗ any_ c (rW 4) ∗ any_ c (rW 5))
    ∗ semVal (barCell c) 0 ∗ (hopDone c 0 ∗ hopDone c 1 ∗ hopDone c 2 ∗ hopDone c 3 ∗ hopDone c 4 ∗ hopDone c 5)
    ∗ at_ c xW (xin m c) ∗ at_ c outW (outAt m c) ∗ owe c 0)

/-- The whole body runs from `atStart` to `atEnd`. -/
theorem sound_body (Kt : PUnit → sProp 𝕄) :
    iprop((known m K ∗ atStart m c) ∗ (atEnd m c -∗ Kt ⟨⟩))
      ⊢ wp frame (wpE (defs₀ (F := F)) 𝒱₀ (c : Thread nD τ) none) Set.univ (onBufs (cc0_body (F := F))) Kt := by
  simp only [onBufs, cc0_body_eq_skeleton]; unfold cc0_body_skel atStart
  iintro ⟨⟨#HK, ⟨HI0, HI1, HI2⟩, ⟨HJ0, HJ1, HJ2⟩, ⟨HA0, HA1⟩, ⟨HB0, HB1⟩, HC, HD, ⟨HS0, HS1, HS2, HS3, HS4, HS5⟩, HZ,
    ⟨HH0, HH1, HH2, HH3, HH4, HH5⟩, HX, HY, HO⟩, Hk⟩
  rw [wp_bind]
  iapply (part1 m K c _)
  isplitl [HI0 HJ0 HA0 HB0 HZ HX HO]
  · iframe HK HI0 HJ0 HA0 HB0 HZ HX HO
  iintro %v3 %v4 ⟨HI0, HA0, HJ0, HZ, HP0, HP1, HX, HO⟩
  unfold rSlots
  icases HP0 with ⟨HP0, HP2, HP4⟩
  icases HP1 with ⟨HP1, HP3, HP5⟩
  rw [wp_bind]
  iapply (part2 m K c _ _)
  isplitl [HA0 HC HI1 HA1 HS0 HH0 HP0 HO]
  · iframe HK HA0 HC HI1 HA1 HS0 HH0 HP0 HO
  iintro ⟨HA0, HC, HI1, HH0, HO⟩
  rw [wp_bind]
  iapply (part3 m K c _ _)
  isplitl [HJ0 HD HJ1 HB1 HH0 HO]
  · iframe HK HJ0 HD HJ1 HB1 HH0 HO
  iintro ⟨HJ0, HB0, HD, HJ1, HH0, HS0, HO⟩
  rw [wp_bind]
  iapply (part4 m K c _ _)
  isplitl [HH0 HS0 HS1 HH1 HP1 HO]
  · iframe HK HH0 HS0 HS1 HH1 HP1 HO
  iintro ⟨HH0, HS0, HR0, HH1, HO⟩
  rw [wp_bind]
  iapply (part5 m K c _ _)
  isplitl [HI1 HC HI2 HA0 HH1 HO]
  · iframe HK HI1 HC HI2 HA0 HH1 HO
  iintro %w ⟨HI1, HA1, HC, HI2, HH1, HS1, HO⟩
  rw [wp_bind]
  iapply (part6 m K c _ _)
  isplitl [HH1 HS1 HD HC HS2 HO]
  · iframe HK HH1 HS1 HD HC HS2 HO
  iintro ⟨HH1, HS1, HR1, HD, HC, HS2, HO⟩
  rw [wp_bind]
  iapply (part7 m K c _ _)
  isplitl [HS2 HH2 HP2 HO HJ1 HD HJ2 HB0]
  · iframe HK HS2 HH2 HP2 HO HJ1 HD HJ2 HB0
  iintro ⟨HH2, HO, HJ1, HB1, HD, HJ2⟩
  rw [wp_bind]
  iapply (part8 m K c _ _)
  isplitl [HH2 HS3 HO]
  · iframe HK HH2 HS3 HO
  iintro ⟨HH2, HS2, HR2, HS3, HO⟩
  rw [wp_bind]
  iapply (part9 m K c _ _)
  isplitl [HS3 HH3 HP3 HO HI2 HC]
  · iframe HK HS3 HH3 HP3 HO HI2 HC
  iintro ⟨HH3, HS3, HO, HI2, HA0, HC⟩
  rw [wp_bind]
  iapply (part10 m K c _ _)
  isplitl [HH3 HS3 HD HC HS4 HO]
  · iframe HK HH3 HS3 HD HC HS4 HO
  iintro ⟨HH3, HS3, HR3, HD, HC, HS4, HO⟩
  rw [wp_bind]
  iapply (part11 m K c _ _)
  isplitl [HS4 HH4 HP4 HO HJ2 HD]
  · iframe HK HS4 HH4 HP4 HO HJ2 HD
  iintro ⟨HH4, HO, HJ2, HB0, HD⟩
  rw [wp_bind]
  iapply (part12 m K c _ _)
  isplitl [HH4 HS5 HO]
  · iframe HK HH4 HS5 HO
  iintro ⟨HH4, HS4, HR4, HS5, HO⟩
  rw [wp_bind]
  iapply (part13 m K c _ _)
  isplitl [HS5 HH5 HP5 HO]
  · iframe HK HS5 HH5 HP5 HO
  iintro ⟨HH5, HS5, HO⟩
  iapply (tail m K c _)
  isplitl [HH5 HS5 HD HY HO]
  · iframe HK HH5 HS5 HD HY HO
  iintro ⟨HH5, HS5, HR5, HD, HY, HO⟩
  iapply Hk
  unfold atEnd
  iframe HI0 HI1 HI2 HJ0 HJ1 HJ2 HA0 HA1 HB0 HB1 HC HD HS0 HS1 HS2 HS3 HS4 HS5 HR0 HR1 HR2 HR3 HR4 HR5 HZ HH0 HH1 HH2 HH3 HH4 HH5 HX HY HO

end Cert.KernelIdealProof

end
-- ==== Proof.KernelIdealLaunch.lean ====
/-
# The launch

The buffers cut into the body's slots, the cells and duties dealt to the devices, the body as the region's obligation, and
the run of the program from any memory with every counter at zero.
-/
module

public import proofs.«01_k».proof.Proof.KernelIdealBody
public import proofs.«01_k».proof.Proof.Slots
public import Idealize.ShloMosaic.Lib.Pipeline.CollectiveSegs

@[expose] public section

set_option maxRecDepth 16384

noncomputable section

namespace Cert.KernelIdealProof

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg) (K : Dev nD × Cell → ℕ) (c : Dev nD)

theorem bigSep_fin6 (Φ : Fin 6 → sProp (MT nD τ sig Unit (Elt F) ℕ UU ℕ)) :
    bigSep Finset.univ Φ = iprop(Φ 0 ∗ Φ 1 ∗ Φ 2 ∗ Φ 3 ∗ Φ 4 ∗ Φ 5) := bigSep_univ_eq_bigSepL [0, 1, 2, 3, 4, 5] (by decide) (by decide) Φ
theorem bigSep_three (Φ : Fin 3 → sProp (MT nD τ sig Unit (Elt F) ℕ UU ℕ)) :
    bigSep Finset.univ Φ = iprop(Φ 0 ∗ Φ 1 ∗ Φ 2) := bigSep_univ_eq_bigSepL [0, 1, 2] (by decide) (by decide) Φ
theorem bigSep_two (Φ : Fin 2 → sProp (MT nD τ sig Unit (Elt F) ℕ UU ℕ)) :
    bigSep Finset.univ Φ = iprop(Φ 0 ∗ Φ 1) := bigSep_univ_eq_bigSepL [0, 1] (by decide) (by decide) Φ
theorem bigSep_both (Φ : Bool → sProp (MT nD τ sig Unit (Elt F) ℕ UU ℕ)) :
    bigSep Finset.univ Φ = iprop(Φ false ∗ Φ true) := bigSep_univ_eq_bigSepL [false, true] (by decide) (by decide) Φ

/-! ## The buffers and their slots -/

instance elt_nonempty : ∀ e : EltTy, Nonempty (Elt F e) := inferInstance

/-- Two hops' rectangles are disjoint, -/
theorem hopR_disj : ∀ k k' : Fin 6, k ≠ k' → Disjoint (hopR k).set (hopR k').set := by
  intro k k' h
  rw [Finset.disjoint_left]
  intro i hi hi'
  have h0 := Rect.mem_set_unit.mp hi 0
  have h1 := Rect.mem_set_unit.mp hi 1
  have g0 := Rect.mem_set_unit.mp hi' 0
  have g1 := Rect.mem_set_unit.mp hi' 1
  change k.val / 2 ≤ (i 0).val ∧ (i 0).val < k.val / 2 + 1 at h0
  change k.val % 2 ≤ (i 1).val ∧ (i 1).val < k.val % 2 + 1 at h1
  change k'.val / 2 ≤ (i 0).val ∧ (i 0).val < k'.val / 2 + 1 at g0
  change k'.val % 2 ≤ (i 1).val ∧ (i 1).val < k'.val % 2 + 1 at g1
  exact h (Fin.ext (by omega))
/-- and the six cover the buffer. -/
theorem hopR_cover : (Finset.univ : Finset (Fin 6)).biUnion (fun k => (hopR k).set) = Finset.univ :=
  Finset.eq_univ_of_forall fun i => by
    have h0 : (i 0).val < 3 := (i 0).isLt
    have h1 : (i 1).val < 2 := (i 1).isLt
    have h2 : (i 2).val < 64 := (i 2).isLt
    have h3 : (i 3).val < 2048 := (i 3).isLt
    refine Finset.mem_biUnion.mpr ⟨⟨2 * (i 0).val + (i 1).val, by omega⟩, Finset.mem_univ _, Rect.mem_set_unit.mpr fun a => ?_⟩
    have q0 : (2 * (i 0).val + (i 1).val) / 2 = (i 0).val := by omega
    have q1 : (2 * (i 0).val + (i 1).val) % 2 = (i 1).val := by omega
    fin_cases a
    · show (2 * (i 0).val + (i 1).val) / 2 ≤ (i 0).val ∧ (i 0).val < (2 * (i 0).val + (i 1).val) / 2 + 1
      omega
    · show (2 * (i 0).val + (i 1).val) % 2 ≤ (i 1).val ∧ (i 1).val < (2 * (i 0).val + (i 1).val) % 2 + 1
      omega
    · show 0 ≤ (i 2).val ∧ (i 2).val < 0 + 64
      omega
    · show 0 ≤ (i 3).val ∧ (i 3).val < 0 + 2048
      omega

theorem wiR_disj : ∀ j j' : Fin 2, j ≠ j' → Disjoint (wiR j).set (wiR j').set := by
  intro j j' h
  rw [Finset.disjoint_left]
  intro i hi hi'
  have h0 := Rect.mem_set_unit.mp hi 0
  have g0 := Rect.mem_set_unit.mp hi' 0
  change j.val ≤ (i 0).val ∧ (i 0).val < j.val + 1 at h0
  change j'.val ≤ (i 0).val ∧ (i 0).val < j'.val + 1 at g0
  exact h (Fin.ext (by omega))
theorem wiR_cover : (Finset.univ : Finset (Fin 2)).biUnion (fun j => (wiR j).set) = Finset.univ :=
  Finset.eq_univ_of_forall fun i => by
    have h0 : (i 0).val < 2 := (i 0).isLt
    have h1 : (i 1).val < 1024 := (i 1).isLt
    have h2 : (i 2).val < 2048 := (i 2).isLt
    refine Finset.mem_biUnion.mpr ⟨⟨(i 0).val, h0⟩, Finset.mem_univ _, Rect.mem_set_unit.mpr fun a => ?_⟩
    fin_cases a
    · show (i 0).val ≤ (i 0).val ∧ (i 0).val < (i 0).val + 1
      omega
    · show 0 ≤ (i 1).val ∧ (i 1).val < 0 + 1024
      omega
    · show 0 ≤ (i 2).val ∧ (i 2).val < 0 + 2048
      omega

theorem woR_disj : ∀ j j' : Fin 2, j ≠ j' → Disjoint (woR j).set (woR j').set := by
  intro j j' h
  rw [Finset.disjoint_left]
  intro i hi hi'
  have h0 := Rect.mem_set_unit.mp hi 0
  have g0 := Rect.mem_set_unit.mp hi' 0
  change j.val ≤ (i 0).val ∧ (i 0).val < j.val + 1 at h0
  change j'.val ≤ (i 0).val ∧ (i 0).val < j'.val + 1 at g0
  exact h (Fin.ext (by omega))
theorem woR_cover : (Finset.univ : Finset (Fin 2)).biUnion (fun j => (woR j).set) = Finset.univ :=
  Finset.eq_univ_of_forall fun i => by
    have h0 : (i 0).val < 2 := (i 0).isLt
    have h1 : (i 1).val < 2048 := (i 1).isLt
    have h2 : (i 2).val < 1024 := (i 2).isLt
    refine Finset.mem_biUnion.mpr ⟨⟨(i 0).val, h0⟩, Finset.mem_univ _, Rect.mem_set_unit.mpr fun a => ?_⟩
    fin_cases a
    · show (i 0).val ≤ (i 0).val ∧ (i 0).val < (i 0).val + 1
      omega
    · show 0 ≤ (i 1).val ∧ (i 1).val < 0 + 2048
      omega
    · show 0 ≤ (i 2).val ∧ (i 2).val < 0 + 1024
      omega

/-- The send buffer is its six slots, -/
theorem sSlots_eq : (ownsAny (c : Thread nD τ) (Memref.whole cc0_scratch4) : sProp 𝕄)
    = iprop(any_ c (sW 0) ∗ any_ c (sW 1) ∗ any_ c (sW 2) ∗ any_ c (sW 3) ∗ any_ c (sW 4) ∗ any_ c (sW 5)) :=
  (BI.Entails.antisymm (ownsAny_cut (c : Thread nD τ) _ hopR (fun _ _ => rfl) hopR_disj hopR_cover)
    (ownsAny_join (c : Thread nD τ) _ hopR (fun _ _ => rfl) hopR_disj hopR_cover)).trans (bigSep_fin6 fun k => any_ c (sW k))
/-- the receive buffer its six, -/
theorem rSlots_eq : (ownsAny (c : Thread nD τ) (Memref.whole cc0_scratch5) : sProp 𝕄)
    = iprop(any_ c (rW 0) ∗ any_ c (rW 1) ∗ any_ c (rW 2) ∗ any_ c (rW 3) ∗ any_ c (rW 4) ∗ any_ c (rW 5)) :=
  (BI.Entails.antisymm (ownsAny_cut (c : Thread nD τ) _ hopR (fun _ _ => rfl) hopR_disj hopR_cover)
    (ownsAny_join (c : Thread nD τ) _ hopR (fun _ _ => rfl) hopR_disj hopR_cover)).trans (bigSep_fin6 fun k => any_ c (rW k))
/-- each weight buffer its two, -/
theorem wiSlots_eq : (ownsAny (c : Thread nD τ) (Memref.whole cc0_scratch0) : sProp 𝕄) = iprop(any_ c (wiW 0) ∗ any_ c (wiW 1)) :=
  (BI.Entails.antisymm (ownsAny_cut (c : Thread nD τ) _ wiR (fun _ _ => rfl) wiR_disj wiR_cover)
    (ownsAny_join (c : Thread nD τ) _ wiR (fun _ _ => rfl) wiR_disj wiR_cover)).trans (bigSep_two fun j => any_ c (wiW j))
theorem woSlots_eq : (ownsAny (c : Thread nD τ) (Memref.whole cc0_scratch1) : sProp 𝕄) = iprop(any_ c (woW 0) ∗ any_ c (woW 1)) :=
  (BI.Entails.antisymm (ownsAny_cut (c : Thread nD τ) _ woR (fun _ _ => rfl) woR_disj woR_cover)
    (ownsAny_join (c : Thread nD τ) _ woR (fun _ _ => rfl) woR_disj woR_cover)).trans (bigSep_two fun j => any_ c (woW j))

/-- so the scratch buffers are the slots the body works on. -/
theorem scratch_eq : (Pipeline.scopedRest cfg0.spec c : sProp 𝕄)
    = iprop((any_ c (wiW 0) ∗ any_ c (wiW 1)) ∗ (any_ c (woW 0) ∗ any_ c (woW 1)) ∗ any_ c biW ∗ any_ c boW
      ∗ (any_ c (sW 0) ∗ any_ c (sW 1) ∗ any_ c (sW 2) ∗ any_ c (sW 3) ∗ any_ c (sW 4) ∗ any_ c (sW 5))
      ∗ (any_ c (rW 0) ∗ any_ c (rW 1) ∗ any_ c (rW 2) ∗ any_ c (rW 3) ∗ any_ c (rW 4) ∗ any_ c (rW 5))) := by
  rw [← sSlots_eq, ← rSlots_eq, ← wiSlots_eq, ← woSlots_eq,
    show any_ (F := F) c biW = ownsAny (c : Thread nD τ) (Memref.whole cc0_scratch2) from ownsAny_full (c : Thread nD τ) _ _ _ _,
    show any_ (F := F) c boW = ownsAny (c : Thread nD τ) (Memref.whole cc0_scratch3) from ownsAny_full (c : Thread nD τ) _ _ _ _]
  simp only [ownsAny_whole]
  exact scopedRest0_eq c

/-! ## The semaphores -/

/-- The kernel's own semaphores: the hops' and the local copies'. -/
abbrev osem : (Bool × Fin 6) ⊕ (Bool × Fin 3) → SemLoc sig
  | .inl x => csem (.inr x)
  | .inr x => lsem x
theorem ownSemFacts : Pipeline.OwnSemFacts cfg0.spec osem := by decide

/-- The local copies' semaphores at zero. -/
def lsems : sProp 𝕄 := bigSep Finset.univ fun x : Bool × Fin 3 => semVal ((c : Thread nD τ), lsem x) 0
abbrev osems : sProp 𝕄 := Pipeline.ownSems0 (Ix := Unit) (Name := ℕ) (U := UU) (Lvl := ℕ) (Val := Elt F) (τ := τ) osem c

theorem osems_eq : (osems c : sProp 𝕄) = iprop((bigSep Finset.univ fun x : Bool × Fin 6 => semVal (kcell (c, .inr x)) 0) ∗ lsems c) := by
  unfold osems Pipeline.ownSems0 lsems
  exact BI.bigSep_univ_sum _
/-- The barrier semaphore is the launch's one unscoped semaphore. -/
theorem unscopedSems0_eq : (unscopedSems0 c : sProp 𝕄) = semVal (barCell c) 0 := by
  unfold unscopedSems0; rw [bigSep_eq_bigSepL_of_eq [SemLoc.reg barS] (by decide) (by decide)]; rfl

/-- A family over a device's cells is the barrier's member and the hops'. -/
theorem bigSep_cell (Φ : Cell → sProp (MT nD τ sig Unit (Elt F) ℕ UU ℕ)) :
    bigSep Finset.univ Φ = iprop(Φ (.inl ()) ∗ bigSep Finset.univ fun x : Bool × Fin 6 => Φ (.inr x)) := by
  rw [BI.bigSep_univ_sum, BI.bigSep_univ_of_subsingleton ()]; rfl
/-- A family over the hops' two cells is the send cells' and the receive cells'. -/
theorem bigSep_xfer (Φ : Bool × Fin 6 → sProp (MT nD τ sig Unit (Elt F) ℕ UU ℕ)) :
    bigSep Finset.univ Φ = iprop((bigSep Finset.univ fun k : Fin 6 => Φ (false, k)) ∗ bigSep Finset.univ fun k : Fin 6 => Φ (true, k)) := by
  rw [BI.bigSep_univ_prod, bigSep_both]

/-! ## The ghost state dealt at launch -/

def hopCells : Finset (GSem nD τ sig) := Finset.univ.map ⟨kcell, kcell_injective⟩

/-- A device's own cells' duty tokens: the barrier's two, one per transfer cell. -/
abbrev tokOf (cj : Dev nD × (Bool ⊕ (Bool × Fin 6))) : GSem nD τ sig × ℕ × Bool := match cj.2 with
  | .inl d => (barCell cj.1, 0, d)
  | .inr x => (kcell (cj.1, .inr x), 0, false)
theorem tokOf_injective : Function.Injective (tokOf : Dev nD × (Bool ⊕ (Bool × Fin 6)) → GSem nD τ sig × ℕ × Bool) := by
  rintro ⟨c, j⟩ ⟨c', j'⟩ h
  have hcell := congrArg Prod.fst h
  have hd := congrArg (fun x : GSem nD τ sig × ℕ × Bool => x.2.2) h
  rcases j with d | x <;> rcases j' with d' | x'
  · have h1 : (c, (Sum.inl () : Cell)) = (c', Sum.inl ()) := kcell_injective hcell
    have h2 : d = d' := hd
    rw [(Prod.mk.inj h1).1, h2]
  · have h1 : (c, (Sum.inl () : Cell)) = (c', Sum.inr x') := kcell_injective hcell
    exact absurd (Prod.mk.inj h1).2 (fun h' => by cases h')
  · have h1 : (c, (Sum.inr x : Cell)) = (c', Sum.inl ()) := kcell_injective hcell
    exact absurd (Prod.mk.inj h1).2 (fun h' => by cases h')
  · have h1 : (c, (Sum.inr x : Cell)) = (c', Sum.inr x') := kcell_injective hcell
    rw [(Prod.mk.inj h1).1, Sum.inr.inj (Prod.mk.inj h1).2]
def hopToks : Finset (GSem nD τ sig × ℕ × Bool) := Finset.univ.map ⟨tokOf, tokOf_injective⟩

def u₀ : UU :=
  (initOf (Pipeline.cells cfgs cellOf_inj) (Pipeline.launchToks cfgs cellOf_inj), (initOf hopCells hopToks, 1))

/-- The launch element is the pipeline's part and the exchange's. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (τ := τ) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks : sProp 𝕄 :=
  iprop((bigSep Finset.univ fun d : Bool => dutyTok ER (barCell c) 0 d) ∗ bigSep Finset.univ fun x : Bool × Fin 6 => dutyTok ER (kcell (c, .inr x)) 0 false)
/-- The duty tokens device `c` pays with: a unit to each partner's barrier, its own send cells, its partners' receive cells. -/
def payToks : sProp 𝕄 :=
  iprop((bigSep Finset.univ fun d : Bool => dutyTok ER (barCell (pd d c)) 0 d)
    ∗ (bigSep Finset.univ fun k : Fin 6 => dutyTok ER (sendCell c k) 0 false) ∗ bigSep Finset.univ fun k : Fin 6 => dutyTok ER (recvCell (pe k c) k) 0 false)

/-- What the launch element deals device `c`. -/
def G : sProp 𝕄 :=
  iprop((bigSep Finset.univ fun x : Cell => roundState ER (Rd m) (kcell (c, x)) 0)
    ∗ ((bigSep Finset.univ fun x : Cell => atPos ER (kcell (c, x)) 0 ∅ 0) ∗ bigSep Finset.univ fun x : Cell => reached ER (kcell (c, x)) 0) ∗ toks c)

/-- The invariants and the round marks, known to everyone. -/
def records : sProp 𝕄 :=
  iprop((bigSep Finset.univ fun ck : Dev nD × Cell => cellInv ER (Rd m) (K ck) (kcell ck)) ∗ bigSep Finset.univ fun ck : Dev nD × Cell => reached ER (kcell ck) 0)
instance records_persistent : BI.Persistent (records m K) := by unfold records; infer_instance

/-- What stays with device `c`: its places, the tokens of the duties it pays, its local semaphores. -/
def linear : sProp 𝕄 := iprop((bigSep Finset.univ fun x : Cell => atPos ER (kcell (c, x)) 0 ∅ 0) ∗ payToks c ∗ lsems c)
def G' : sProp 𝕄 := iprop(∃ K, records m K ∗ linear c)

theorem fund_hops : BI.own (ER (initOf hopCells hopToks)) ⊢ (|==> bigSep Finset.univ (G m) : sProp 𝕄) := by
  have hX (Φ : GSem nD τ sig → sProp 𝕄) : bigSep hopCells Φ = bigSep Finset.univ fun c : Dev nD => bigSep Finset.univ fun x : Cell => Φ (kcell (c, x)) := by
    unfold hopCells; rw [bigSep_map, bigSep_univ_prod]; rfl
  have hT : bigSep hopToks (fun x => (dutyTok ER x.1 x.2.1 x.2.2 : sProp 𝕄)) = bigSep Finset.univ fun c : Dev nD => toks c := by
    unfold hopToks; rw [bigSep_map, bigSep_univ_prod]
    exact bigSep_congr fun c _ => by unfold toks; rw [BI.bigSep_univ_sum]; rfl
  iintro HX
  imod (Rounds.fund ER (Rd m) hopCells hopToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe Hst' Hat' Hr' Htok'

/-- The semaphores of a device and the dealt states make its cells' invariants. -/
theorem core_alloc :
    iprop(osems c ∗ unscopedSems0 c ∗ G m c)
      ⊢ |={Set.univ}=> iprop((bigSep Finset.univ fun x : Cell => iprop(∃ κ : ℕ, cellInv ER (Rd m) κ (kcell (c, x))))
          ∗ ((bigSep Finset.univ fun x : Cell => (atPos ER (kcell (c, x)) 0 ∅ 0 : sProp 𝕄)) ∗ bigSep Finset.univ fun x : Cell => (reached ER (kcell (c, x)) 0 : sProp 𝕄))
          ∗ toks c ∗ lsems c) := by
  unfold G
  rw [osems_eq, unscopedSems0_eq]
  iintro ⟨⟨Hx, Hl⟩, Hb, Hst, Hat, Htok⟩
  imod (show iprop((semVal (barCell c) 0 ∗ bigSep Finset.univ fun x : Bool × Fin 6 => semVal (kcell (c, .inr x)) 0) ∗ bigSep Finset.univ fun x : Cell => roundState ER (Rd m) (kcell (c, x)) 0)
      ⊢ (|={Set.univ}=> bigSep Finset.univ fun x : Cell => iprop(∃ κ : ℕ, cellInv ER (Rd m) κ (kcell (c, x))) : sProp 𝕄) from by
        rw [← bigSep_cell fun x : Cell => semVal (kcell (c, x)) 0, ← bigSep_sep']
        exact (bigSep_mono fun x _ => (Rounds.body_intro ER (Rd m) (kcell (c, x))).trans inv_alloc).trans (bigSep_fupd _ _)) $$ [Hb Hx Hst] with Hinv
  · iframe Hb Hx Hst
  imodintro
  iframe Hinv Hat Htok Hl

/-- The tokens handed to the devices that pay them: every partner map is its own inverse. -/
theorem toks_around : (bigSep Finset.univ fun c : Dev nD => (toks c : sProp 𝕄)) ⊢ bigSep Finset.univ fun c : Dev nD => payToks c := by
  have hb : (bigSep Finset.univ fun c : Dev nD => bigSep Finset.univ fun d : Bool => (dutyTok ER (barCell c) 0 d : sProp 𝕄))
      = bigSep Finset.univ fun c : Dev nD => bigSep Finset.univ fun d : Bool => dutyTok ER (barCell (pd d c)) 0 d := by
    rw [BI.bigSep_univ_comm, BI.bigSep_univ_comm (fun (c : Dev nD) (d : Bool) => (dutyTok ER (barCell (pd d c)) 0 d : sProp 𝕄))]
    exact bigSep_congr fun d _ => bigSep_univ_equiv (pdEquiv d) (fun c : Dev nD => (dutyTok ER (barCell c) 0 d : sProp 𝕄))
  have hr : (bigSep Finset.univ fun c : Dev nD => bigSep Finset.univ fun k : Fin 6 => (dutyTok ER (recvCell c k) 0 false : sProp 𝕄))
      = bigSep Finset.univ fun c : Dev nD => bigSep Finset.univ fun k : Fin 6 => dutyTok ER (recvCell (pe k c) k) 0 false := by
    rw [BI.bigSep_univ_comm, BI.bigSep_univ_comm (fun (c : Dev nD) (k : Fin 6) => (dutyTok ER (recvCell (pe k c) k) 0 false : sProp 𝕄))]
    exact bigSep_congr fun k _ => bigSep_univ_equiv (peEquiv k) (fun c : Dev nD => (dutyTok ER (recvCell c k) 0 false : sProp 𝕄))
  unfold toks payToks
  rw [bigSep_sep', bigSep_sep', bigSep_sep', hb, ← hr, ← bigSep_sep' Finset.univ (fun c : Dev nD => bigSep Finset.univ fun k : Fin 6 => (dutyTok ER (sendCell c k) 0 false : sProp 𝕄))]
  exact sep_mono_right (Entails.of_eq (bigSep_congr fun c _ => bigSep_xfer fun x => dutyTok ER (kcell (c, .inr x)) 0 false))

theorem regroup :
    (bigSep Finset.univ fun c : Dev nD => iprop((bigSep Finset.univ fun x : Cell => iprop(∃ κ : ℕ, cellInv ER (Rd m) κ (kcell (c, x))))
          ∗ ((bigSep Finset.univ fun x : Cell => (atPos ER (kcell (c, x)) 0 ∅ 0 : sProp 𝕄)) ∗ bigSep Finset.univ fun x : Cell => (reached ER (kcell (c, x)) 0 : sProp 𝕄))
          ∗ toks c ∗ lsems c) : sProp 𝕄)
      ⊢ bigSep Finset.univ (G' m) := by
  rw [bigSep_sep', bigSep_sep', bigSep_sep', bigSep_sep',
    ← bigSep_univ_prod (fun ck : Dev nD × Cell => iprop(∃ κ : ℕ, cellInv ER (Rd m) κ (kcell ck))),
    ← bigSep_univ_prod (fun ck : Dev nD × Cell => (reached ER (kcell ck) 0 : sProp 𝕄))]
  iintro ⟨HI, ⟨Hat, #HR⟩, Htok, Hl⟩
  ihave HK := (BI.bigSep_exists_pi Finset.univ (fun (ck : Dev nD × Cell) (κ : ℕ) => (cellInv ER (Rd m) κ (kcell ck) : sProp 𝕄))) $$ HI
  icases HK with ⟨%K, #HI⟩
  ihave Htk := (toks_around (F := F)) $$ Htok
  iapply (show iprop((bigSep Finset.univ fun _ : Dev nD => records m K) ∗ bigSep Finset.univ fun c : Dev nD => (linear c : sProp 𝕄)) ⊢ bigSep Finset.univ (G' m) from by
    rw [← bigSep_sep']
    exact bigSep_mono fun c _ => show iprop(records m K ∗ linear c) ⊢ iprop(∃ K, records m K ∗ linear c) from by
      iintro H; iexists K; iexact H)
  isplitr
  · iapply (BI.bigSep_of_persistent (Finset.univ : Finset (Dev nD)) (records m K))
    unfold records; iframe HI HR
  · unfold linear
    rw [bigSep_sep', bigSep_sep']
    iframe Hat Htk Hl

/-- The global step: every device's semaphores at once. -/
theorem glob : (bigSep Finset.univ fun c : Dev nD => iprop(osems c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch credit -/

/-- One hop's credit out of the credit of the last hops. -/
theorem cred_hop {k : Fin 6} {n : ℕ} (h : k.val + n = 5) :
    (Pipeline.launchCred (fun d => due d (n + 1)) c : sProp 𝕄) ⊢ iprop(Pipeline.launchCred (fun d => due d n) c ∗ cred (tallyAt (recvCell c k) () N)) := by
  rw [show (fun d => due d (n + 1)) = fun d : Dev nD => due d n + tallyAt (recvCell (pe k d) k) () N from funext fun d => due_succ d h, Pipeline.launchCred_add]
  exact sep_mono_right (Pipeline.launchCred_tallyAt (csem (.inr (true, k))) (pe k) (pe k) (pe_pe k) (pe_pe k) () N c)

/-- A device's credit: two units on its barrier, one message on each receive cell. -/
theorem creds : (Pipeline.launchCred O₀ c : sProp 𝕄)
    ⊢ iprop(cred (tallyAt (barCell c) () 2) ∗ bigSep Finset.univ fun k : Fin 6 => cred (tallyAt (recvCell c k) () N)) := by
  rw [show (O₀ : Dev nD → CellTallies nD τ sig Unit) = fun d => (due d 6 + tallyAt (barCell (p2 d)) () 1) + tallyAt (barCell (p1 d)) () 1 from rfl,
    Pipeline.launchCred_add, Pipeline.launchCred_add, bigSep_fin6]
  iintro ⟨⟨Hd, H2⟩, H1⟩
  ihave H2' := (Pipeline.launchCred_tallyAt (csem (.inl ())) p2 p2 (pd_pd true) (pd_pd true) () 1 c) $$ H2
  ihave H1' := (Pipeline.launchCred_tallyAt (csem (.inl ())) p1 p1 (pd_pd false) (pd_pd false) () 1 c) $$ H1
  ihave Hd := (cred_hop c (k := 0) (n := 5) rfl) $$ Hd
  icases Hd with ⟨Hd, C0⟩
  ihave Hd := (cred_hop c (k := 1) (n := 4) rfl) $$ Hd
  icases Hd with ⟨Hd, C1⟩
  ihave Hd := (cred_hop c (k := 2) (n := 3) rfl) $$ Hd
  icases Hd with ⟨Hd, C2⟩
  ihave Hd := (cred_hop c (k := 3) (n := 2) rfl) $$ Hd
  icases Hd with ⟨Hd, C3⟩
  ihave Hd := (cred_hop c (k := 4) (n := 1) rfl) $$ Hd
  icases Hd with ⟨Hd, C4⟩
  ihave Hd := (cred_hop c (k := 5) (n := 0) rfl) $$ Hd
  icases Hd with ⟨-, C5⟩
  isplitl [H1' H2']
  · rw [← tallyAt_add (barCell c) () 1 1]
    iapply (cred_add _ _).2
    iframe H1' H2'
  iframe C0 C1 C2 C3 C4 C5

/-! ## From the launch to the body, and back -/

/-- The weights, as launched. -/
def weights : sProp 𝕄 := Pipeline.unscopedRest cfg0.spec c fun b => m ((c : Thread nD τ).loc b)

/-- The weights and the local copies' semaphores are the six copies at rest. -/
theorem idle_eq : iprop(weights m c ∗ lsems c)
    = iprop((wiIdle m c 0 ∗ wiIdle m c 1 ∗ wiIdle m c 2) ∗ (woIdle m c 0 ∗ woIdle m c 1 ∗ woIdle m c 2)) := by
  have hw : weights m c = iprop(owns (c : Thread nD τ) (wiM 0) fullShare (wi m 0 c) ∗ owns (c : Thread nD τ) (wiM 1) fullShare (wi m 1 c)
      ∗ owns (c : Thread nD τ) (wiM 2) fullShare (wi m 2 c) ∗ owns (c : Thread nD τ) (woM 0) fullShare (wo m 0 c)
      ∗ owns (c : Thread nD τ) (woM 1) fullShare (wo m 1 c) ∗ owns (c : Thread nD τ) (woM 2) fullShare (wo m 2 c)) := by
    rw [show owns (c : Thread nD τ) (wiM 0) fullShare (wi m 0 c) = _ from owns_whole (c : Thread nD τ) main_arg1 fullShare _,
      show owns (c : Thread nD τ) (wiM 1) fullShare (wi m 1 c) = _ from owns_whole (c : Thread nD τ) main_arg2 fullShare _,
      show owns (c : Thread nD τ) (wiM 2) fullShare (wi m 2 c) = _ from owns_whole (c : Thread nD τ) main_arg3 fullShare _,
      show owns (c : Thread nD τ) (woM 0) fullShare (wo m 0 c) = _ from owns_whole (c : Thread nD τ) main_arg4 fullShare _,
      show owns (c : Thread nD τ) (woM 1) fullShare (wo m 1 c) = _ from owns_whole (c : Thread nD τ) main_arg5 fullShare _,
      show owns (c : Thread nD τ) (woM 2) fullShare (wo m 2 c) = _ from owns_whole (c : Thread nD τ) main_arg6 fullShare _]
    exact unscopedRest0_eq c _
  have hl : (lsems c : sProp 𝕄) = iprop((semVal ((c : Thread nD τ), .dma (wiS 0)) 0 ∗ semVal ((c : Thread nD τ), .dma (wiS 1)) 0 ∗ semVal ((c : Thread nD τ), .dma (wiS 2)) 0)
      ∗ (semVal ((c : Thread nD τ), .dma (woS 0)) 0 ∗ semVal ((c : Thread nD τ), .dma (woS 1)) 0 ∗ semVal ((c : Thread nD τ), .dma (woS 2)) 0)) := by
    unfold lsems; rw [BI.bigSep_univ_prod, bigSep_both, bigSep_three, bigSep_three]
  rw [hw, hl]
  unfold wiIdle woIdle
  refine BI.Entails.antisymm (show (_ : sProp 𝕄) ⊢ _ from ?_) (show (_ : sProp 𝕄) ⊢ _ from ?_)
  · iintro ⟨⟨A0, A1, A2, B0, B1, B2⟩, ⟨S0, S1, S2⟩, T0, T1, T2⟩
    iframe A0 S0 A1 S1 A2 S2 B0 T0 B1 T1 B2 T2
  · iintro ⟨⟨⟨A0, S0⟩, ⟨A1, S1⟩, A2, S2⟩, ⟨B0, T0⟩, ⟨B1, T1⟩, B2, T2⟩
    iframe A0 A1 A2 B0 B1 B2 S0 S1 S2 T0 T1 T2

/-- The dealt places, tokens and credit are the barrier and the hops before their use. -/
theorem hops_intro :
    iprop((bigSep Finset.univ fun x : Cell => atPos ER (kcell (c, x)) 0 ∅ 0) ∗ payToks c ∗ cred (tallyAt (barCell c) () 2)
        ∗ (bigSep Finset.univ fun k : Fin 6 => cred (tallyAt (recvCell c k) () N))
        ∗ (any_ c (rW 0) ∗ any_ c (rW 1) ∗ any_ c (rW 2) ∗ any_ c (rW 3) ∗ any_ c (rW 4) ∗ any_ c (rW 5)))
      ⊢ (iprop(barNew c ∗ (hopNew c 0 ∗ hopNew c 1 ∗ hopNew c 2 ∗ hopNew c 3 ∗ hopNew c 4 ∗ hopNew c 5)) : sProp 𝕄) := by
  rw [← bigSep_fin6 (hopNew c), bigSep_cell, bigSep_xfer]
  unfold barNew payToks rSlots
  rw [show (bigSep Finset.univ (hopNew c) : sProp 𝕄) = bigSep Finset.univ fun k => hopNew c k from rfl]
  unfold hopNew
  rw [bigSep_both]
  simp only [bigSep_sep']
  iintro ⟨⟨Ab, As, Ar⟩, ⟨⟨T1, T2⟩, Ts, Tr⟩, Cb, Cr, R0, R1, R2, R3, R4, R5⟩
  iframe Ab T1 T2 Cb R0 R2 R4 R1 R3 R5 As Ar Ts Tr Cr

/-- The semaphores the body leaves at zero are the kernel's own. -/
theorem hops_elim : iprop(hopDone c 0 ∗ hopDone c 1 ∗ hopDone c 2 ∗ hopDone c 3 ∗ hopDone c 4 ∗ hopDone c 5)
    ⊢ (bigSep Finset.univ fun x : Bool × Fin 6 => semVal (kcell (c, .inr x)) 0 : sProp 𝕄) := by
  rw [← bigSep_fin6 (hopDone c), bigSep_xfer]
  rw [show (bigSep Finset.univ (hopDone c) : sProp 𝕄) = bigSep Finset.univ fun k => hopDone c k from rfl]
  unfold hopDone
  rw [bigSep_sep']

theorem atStart_intro :
    iprop(linear c ∗ cred (tallyAt (barCell c) () 2) ∗ (bigSep Finset.univ fun k : Fin 6 => cred (tallyAt (recvCell c k) () N)) ∗ weights m c
        ∗ Pipeline.scopedRest cfg0.spec c ∗ at_ c (Memref.whole cc0_stg0_0) (xin m c) ∗ any_ c (Memref.whole cc0_stg1_0) ∗ owing (c : Thread nD τ) (O₀ c))
      ⊢ atStart m c := by
  unfold linear atStart
  rw [scratch_eq, show at_ c xW (xin m c) = at_ c (Memref.whole cc0_stg0_0) (xin m c) from owns_full (c : Thread nD τ) _ _ _ _ _,
    show any_ (F := F) c outW = any_ c (Memref.whole cc0_stg1_0) from ownsAny_full (c : Thread nD τ) _ _ _ _]
  iintro ⟨⟨Hat, Htok, Hl⟩, Hcb, Hcr, Hw, ⟨A, B, C, D, S, R⟩, X, Y, O⟩
  ihave Hi := (Entails.of_eq (idle_eq m c)) $$ [Hw Hl]
  · iframe Hw Hl
  icases Hi with ⟨Hi, Hj⟩
  ihave Hh := (hops_intro (F := F) c) $$ [Hat Htok Hcb Hcr R]
  · iframe Hat Htok Hcb Hcr R
  icases Hh with ⟨Hb, Hh⟩
  iframe Hi Hj A B C D S Hb Hh X Y O

theorem atEnd_elim : atEnd m c
    ⊢ iprop((unscopedSems0 c ∗ weights m c ∗ osems c ∗ Pipeline.scopedRest cfg0.spec c)
        ∗ at_ c (Memref.whole cc0_stg0_0) (xin m c) ∗ at_ c (Memref.whole cc0_stg1_0) (outAt m c) ∗ owing (c : Thread nD τ) 0) := by
  unfold atEnd
  rw [scratch_eq, show at_ c xW (xin m c) = at_ c (Memref.whole cc0_stg0_0) (xin m c) from owns_full (c : Thread nD τ) _ _ _ _ _,
    show at_ c outW (outAt m c) = at_ c (Memref.whole cc0_stg1_0) (outAt m c) from owns_full (c : Thread nD τ) _ _ _ _ _,
    osems_eq, unscopedSems0_eq]
  iintro ⟨Hi, Hj, A, B, C, D, S, R, Hb, Hh, X, Y, O⟩
  ihave Hwl := (Entails.of_eq (idle_eq m c).symm) $$ [Hi Hj]
  · iframe Hi Hj
  icases Hwl with ⟨Hw, Hl⟩
  ihave Hh' := (hops_elim (F := F) c) $$ Hh
  iframe Hb Hw Hh' Hl A B C D S R X Y O

/-! ## The region -/

/-- What device `c` brings to the body: the invariants, its share of the exchange, its credit, the weights. -/
def start : sProp 𝕄 :=
  iprop((∃ K, known m K) ∗ linear c ∗ cred (tallyAt (barCell c) () 2) ∗ (bigSep Finset.univ fun k : Fin 6 => cred (tallyAt (recvCell c k) () N)) ∗ weights m c)

def Φ₀ : sProp 𝕄 := iprop(start m c ∗ Pipeline.scopedRest cfg0.spec c)
def Φ₁ : sProp 𝕄 := iprop(unscopedSems0 c ∗ weights m c ∗ osems c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The region's obligation on the body, on device `c`. -/
theorem body_obligation : BodyObligation (dats (F := F) m ρ 0 c) (defs₀ (F := F)) 𝒱₀ () Set.univ := fun t => by
  rw [fin_N0 t]
  rw [bigSep_W0, bigSep_W0]
  show iprop(Φ₀ m c ∗ Pipeline.owesWithin c (O₀ c) ((dats m ρ 0 c).bound () t0_0.castSucc)
      ∗ (∃ d, at_ c (Memref.whole cc0_stg0_0) ((dats m ρ 0 c).before (0 : Fin 2) t0_0 d))
      ∗ (∃ d, at_ c (Memref.whole cc0_stg1_0) ((dats m ρ 0 c).before (1 : Fin 2) t0_0 d)))
    ⊢ wp frame (wpE (defs₀ (F := F)) 𝒱₀ (c : Thread nD τ) none) Set.univ (onBufs (cc0_body (F := F)))
      (fun _ => iprop(Φ₁ m c ∗ Pipeline.owesWithin c 0 ((dats m ρ 0 c).bound () t0_0.succ)
        ∗ at_ c (Memref.whole cc0_stg0_0) (xin m c) ∗ at_ c (Memref.whole cc0_stg1_0) (outAt m c)))
  unfold Φ₀ start
  iintro ⟨⟨⟨⟨%K, HK⟩, Hl, Hcb, Hcr, Hw⟩, Hs⟩, ⟨%W, %hW, HO⟩, ⟨%d0, Hx⟩, ⟨%d1, Hy⟩⟩
  have hx : (dats m ρ 0 c).before (0 : Fin 2) t0_0 d0 = xin m c := by
    unfold Dat.before; rw [if_pos (fetch0_0 t0_0)]; rfl
  iapply (sound_body m K c _)
  isplitl [HK Hl Hcb Hcr Hw Hs HO Hx Hy]
  · isplitl [HK]; · iexact HK
    iapply (atStart_intro m c)
    rw [hx]
    ihave Hy' := (ownsAny_of (c : Thread nD τ) (Memref.whole cc0_stg1_0) _) $$ Hy
    ihave HO' := (show owes (c : Thread nD τ) (O₀ c) W ⊢ (owing (c : Thread nD τ) (O₀ c) : sProp 𝕄) from by
      unfold owing; iintro H; iexists W; iexact H) $$ HO
    iframe Hl Hcb Hcr Hw Hs Hx Hy' HO'
  iintro He
  ihave He := (atEnd_elim m c) $$ He
  unfold Φ₁ owing
  icases He with ⟨Hf, Hx, Hy, ⟨%W', HO⟩⟩
  isplitl [Hf]; · iexact Hf
  isplitl [HO]
  · iexists W'
    isplitr; · ipureintro; exact fun _ _ => Or.inl trivial
    iexact HO
  iframe Hx Hy

/-! ## The run -/

theorem share_eq (c : Dev nD) (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  unfold start G' weights
  iintro ⟨Hw, Hlev, Hcr, -, ⟨%K, HR, HL⟩⟩
  ihave Hc := (creds (F := F) c) $$ Hcr
  icases Hc with ⟨H1, HN⟩
  imodintro
  isplitl
  · isplitl [HR Hlev]
    · iexists K
      unfold records known
      icases HR with ⟨HI, Hr⟩
      iframe HI Hr Hlev
    iframe HL H1 HN Hw
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  iframe Hs Hr

theorem phi1_exit :
    (dats m ρ 0 c).Φ (Fin.last cfg0.N) ⊢ iprop((unscopedSems0 c ∗ weights m c) ∗ Pipeline.ownSems0 osem c ∗ Pipeline.scopedRest cfg0.spec c) := by
  rw [show (dats m ρ 0 c).Φ (Fin.last cfg0.N) = Φ₁ m c from rfl]
  unfold Φ₁
  iintro ⟨Hu, Hw, Ho, Hr⟩
  iframe Hu Hw Ho Hr

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> first | exact stg_not.1 | exact stg_not.2) _ (by
      rcases t with ⟨_ | _, ht⟩
      · exact Or.inl rfl
      · exact Or.inr rfl)

/-- What is read of the buffers the body does not stage. -/
def Kept (c : Dev nD) (s : MemSt nD τ sig (Elt F)) : Prop :=
  ∀ b ∈ (Finset.univ.filter fun b : Ref sig .tc => ¬ b.isScoped) \ Finset.univ.image (Pipeline.arrRef cfg0.spec),
    s.mem ((c : Thread nD τ).loc b) = m ((c : Thread nD τ).loc b)

def finalA (c : Dev nD) (w : Fin cfg0.W) : Buf (Elt F) ((cfg0.win w).arr.view.loc (c : Thread nD τ)) := (dats m ρ 0 c).arrAt w cfg0.N

/-- The program runs from any memory with every counter at zero, and stops with every window's array at what the launch
    computes, the weights as they were, and every counter at zero. -/
theorem run_main : θ_run defs (onTc (τ := τ) (main (F := F))) (s₀ m ρ)
    (fun r => (∀ c : Dev nD, (∀ w : Fin cfg0.W, r.2.mem ((cfg0.win w).arr.view.loc (c : Thread nD τ)) = finalA m ρ c w) ∧ Kept m c r.2)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_hops m) $$ HX with HG
      imodintro
      isplitl [HP] <;> iassumption)
    (hglob := glob m)
    (hA := fun _ _ => rfl) (hpf := fun _ k => k.elim0)
    (X := start m) (Y := fun c => iprop(unscopedSems0 c ∗ weights m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Kept m c s)
    (hY := fun c s' => by
      unfold weights Pipeline.unscopedRest
      iintro ⟨⟨Hu, Hw⟩, -, HSI⟩
      ihave Hr := (pointsTo_read_all _ (fun b : Ref sig .tc => (c : Thread nD τ).loc b) (fun b => m ((c : Thread nD τ).loc b)) s') $$ [Hw HSI]
      · iframe Hw HSI
      icases Hr with ⟨%hk, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hk⟩
      iexact HSI)
    (hQ := fun _ h hs => ⟨fun c => ⟨(h c).1, (h c).2.2.2⟩, sem_eq_zero hs fun c => (h c).2.2.1⟩)

/-- The staged input's array after the run holds what it held. -/
theorem finalA_x : finalA m ρ c (0 : Fin 2) = (s₀ m ρ).mem (win0_0.arr.view.loc (c : Thread nD τ)) :=
  (dats (F := F) m ρ 0 c).arrAt_in (0 : Fin 2) rfl _

end Cert.KernelIdealProof

end
-- ==== Proof.KernelIdealRun.lean ====
/-
  What a run of the program leaves: on every device the result array holds `outAt`, the seven arguments are as they
  were, and every counter is at zero.
-/
module

public import proofs.«01_k».proof.Proof.KernelIdealLaunch
public import Idealize.ShloMosaic.Lib.Pipeline.ValueKit

@[expose] public section

set_option maxRecDepth 16384

noncomputable section

namespace Cert.KernelIdealProof

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The one write-back fills the result array with what the body left. -/
theorem finalA_out (c : Dev nD) : finalA m ρ c (1 : Fin 2) = (outAt m c : Buf (Elt F) ((cfg0.win 1).arr.view.loc (c : Thread nD τ))) := by
  refine (dats m ρ 0 c).arrAt_eq_of_after_last 1 t0_0 (by decide +kernel) _ fun j => ?_
  blk_simp
  rfl

/-- The program's run from memory `m`: the result, the arguments, the counters. -/
theorem run_ends : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r h => ⟨fun c => ⟨((h.1 c).1 1).trans (finalA_out m ρ c), ((h.1 c).1 0).trans (finalA_x m ρ c),
      (h.1 c).2 _ (Pipeline.mem_restRefs_of main_arg1 (by decide) (by decide)), (h.1 c).2 _ (Pipeline.mem_restRefs_of main_arg2 (by decide) (by decide)),
      (h.1 c).2 _ (Pipeline.mem_restRefs_of main_arg3 (by decide) (by decide)), (h.1 c).2 _ (Pipeline.mem_restRefs_of main_arg4 (by decide) (by decide)),
      (h.1 c).2 _ (Pipeline.mem_restRefs_of main_arg5 (by decide) (by decide)), (h.1 c).2 _ (Pipeline.mem_restRefs_of main_arg6 (by decide) (by decide))⟩, h.2⟩)
    (run_main m ρ)

end Cert.KernelIdealProof

end
-- ==== Proof.Value.lean ====
/-
# The value

At the ideal instance every conversion of a number's format is the identity and a product is a sum over the contracted
axis. Here the six messages and the result are read at an index, layer by layer, and compared with the whole product.
-/
module

public import proofs.«01_k».proof.Proof.KernelIdealRun
public import proofs.«01_k».proof.Proof.Gen.ReferenceIdeal.Run
public import Idealize.ShloMosaic.Lib.Pointwise
public import Idealize.ShloMosaic.Lib.Layout
public import Idealize.ShloMosaic.PureOps.Ideal.Laws

@[expose] public section

set_option maxRecDepth 16384

noncomputable section

namespace Cert.KernelIdealProof

open Cert.KernelIdeal Cert.KernelIdeal.Gen Cert.Steps
open Idealize.ShloMosaic
open Idealize.ShloMosaic.TcCoe
open Idealize.SL.Sem

/-! ## The payloads at an index -/

/-- A weight read back out of its slot's shape is the weight. -/
theorem cast_relaid {s s' : Shape} {α : Type} (h : s'.numel = s.numel) (hc : s.ShapeCasts s') (X : s'.Idx → α) :
    shapeCast s' (relaid h X) hc = X := by
  funext j
  show X ((Shape.reshapeEquiv h).symm (Shape.reshapeEquiv h j)) = X j
  rw [Equiv.symm_apply_apply]

/-- A message's element in row `i` and column `j`. -/
abbrev cell (i : Fin 64) (j : Fin 2048) : S1x1x64x2048.Idx := ix4 (0 : Fin 1) (0 : Fin 1) i j

/-- The partial product a device starts layer 0 with. -/
theorem first_apply (X : Vec Ideal S64x1024 .f32) (W : Vec Ideal S1024x2048 .f32) (i : Fin 64) (j : Fin 2048) :
    k0_pay4 (k0_pay2 X) (k0_pay3 (wiSlot W)) (cell i j) = ∑ k : Fin 1024, X (ix2 i k) * W (ix2 k j) := by
  unfold k0_pay4 k0_pay2 k0_pay3 wiSlot
  simp only [cast_relaid]
  pointwise

/-- A sum of two messages. -/
theorem pair_apply (A B : Vec Ideal S1x1x64x2048 .bf16) (i : Fin 64) (j : Fin 2048) :
    k0_pay6 A B (cell i j) = A (cell i j) + B (cell i j) := by
  unfold k0_pay6
  pointwise

/-- The device's columns of a layer's result. -/
theorem last_apply (A B : Vec Ideal S1x1x64x2048 .bf16) (V : Vec Ideal S2048x1024 .f32) (i : Fin 64) (k : Fin 1024) :
    k0_pay1 A B (k0_pay14 (woSlot V)) (ix2 i k)
      = ∑ h : Fin 2048, max (A (cell i h) + B (cell i h)) 0 * V (ix2 h k) := by
  unfold k0_pay1 k0_pay14 woSlot
  simp only [cast_relaid]
  pointwise

/-- The device's columns of a layer's result times its rows of the next layer's weight. -/
theorem next_apply (A B : Vec Ideal S1x1x64x2048 .bf16) (V : Vec Ideal S2048x1024 .f32) (W : Vec Ideal S1024x2048 .f32)
    (i : Fin 64) (j : Fin 2048) :
    k0_pay8 A B (k0_pay5 (woSlot V)) (k0_pay7 (wiSlot W)) (cell i j)
      = ∑ k : Fin 1024, (∑ h : Fin 2048, max (A (cell i h) + B (cell i h)) 0 * V (ix2 h k)) * W (ix2 k j) := by
  unfold k0_pay8 k0_pay5 k0_pay7 woSlot wiSlot
  simp only [cast_relaid]
  pointwise

/-! ## The reference's layer -/

/-- The whole activations, a whole input weight and a whole output weight. -/
abbrev Act := Vec Ideal ⟨2, ![64, 4096]⟩ .f32
abbrev WIn := Vec Ideal ⟨2, ![4096, 2048]⟩ .f32
abbrev WOut := Vec Ideal ⟨2, ![2048, 4096]⟩ .f32

/-- Device `c`'s block of each. -/
abbrev actOf (c : Fin 4) (X : Act) : Vec Ideal S64x1024 .f32 := Layout.block ⟨2, ![64, 1024]⟩ ⟨2, ![64, 4096]⟩ 1 4 c X
abbrev winOf (c : Fin 4) (W : WIn) : Vec Ideal S1024x2048 .f32 := Layout.block ⟨2, ![1024, 2048]⟩ ⟨2, ![4096, 2048]⟩ 0 4 c W
abbrev woutOf (c : Fin 4) (V : WOut) : Vec Ideal S2048x1024 .f32 := Layout.block ⟨2, ![2048, 1024]⟩ ⟨2, ![2048, 4096]⟩ 1 4 c V

theorem actOf_apply (X : Act) (c : Fin 4) (i : Fin 64) (k : Fin 1024) :
    actOf c X (ix2 i k) = X (ix2 i ⟨c.val * 1024 + k.val, by have := c.isLt; have := k.isLt; omega⟩) :=
  congrArg X (funext fun a => match a with | ⟨0, _⟩ => rfl | ⟨1, _⟩ => rfl)

theorem woutOf_apply (V : WOut) (c : Fin 4) (h : Fin 2048) (k : Fin 1024) :
    woutOf c V (ix2 h k) = V (ix2 h ⟨c.val * 1024 + k.val, by have := c.isLt; have := k.isLt; omega⟩) :=
  congrArg V (funext fun a => match a with | ⟨0, _⟩ => rfl | ⟨1, _⟩ => rfl)

section Reference

open Cert.ReferenceIdeal Cert.ReferenceIdeal.Gen

/-- The hidden activations of a layer, and its result, as the reference computes them. -/
def hidden (X : Act) (W : WIn) : Vec Ideal ⟨2, ![64, 2048]⟩ .f32 :=
  maximumf (Host.dotGeneral (F := Ideal) (φ₁ := .f32) (φ₂ := .f32) dot_S64x4096_S4096x2048_S64x2048_1_0_0_1_n_n none X W)
    (broadcastInDim ReferenceIdeal.S64x2048 ![] bcast_S_S64x2048 (constant ReferenceIdeal.S_ .f32 0x00000000#32))
def layer (X : Act) (W : WIn) (V : WOut) : Act :=
  Host.dotGeneral (F := Ideal) (φ₁ := .f32) (φ₂ := .f32) dot_S64x2048_S2048x4096_S64x4096_1_0_0_1_n_n none (hidden X W) V

theorem hidden_apply (X : Act) (W : WIn) (i : Fin 64) (j : Fin 2048) :
    hidden X W (ix2 i j) = max (∑ k : Fin 4096, X (ix2 i k) * W (ix2 k j)) 0 := by
  unfold hidden
  pointwise

theorem layer_apply (X : Act) (W : WIn) (V : WOut) (i : Fin 64) (k : Fin 4096) :
    layer X W V (ix2 i k) = ∑ h : Fin 2048, hidden X W (ix2 i h) * V (ix2 h k) := by
  unfold layer
  generalize hidden X W = H
  pointwise

end Reference

/-! ## Four partial products -/

/-- Device `c`'s share of the product of the activations and an input weight. -/
def part (X : Act) (W : WIn) (c : Fin 4) (i : Fin 64) (j : Fin 2048) : Ideal .f32 :=
  ∑ k : Fin 1024, actOf c X (ix2 i k) * winOf c W (ix2 k j)

/-- A device, its two partners and their common one are all four. -/
theorem around (f : Fin 4 → Ideal .f32) (c : Dev nD) : (f c + f (p1 c)) + (f (p2 c) + f (p1 (p2 c))) = ∑ d : Fin 4, f d := by
  show (f c + f (p1 c)) + (f (p2 c) + f (p1 (p2 c))) = (∑ d : Fin 4, f d : EReal)
  rw [Fin.sum_univ_four]
  fin_cases c
  · show (f 0 + f 1) + (f 3 + f 2) = (f 0 + f 1 + f 2 + f 3 : EReal); abel
  · show (f 1 + f 0) + (f 2 + f 3) = (f 0 + f 1 + f 2 + f 3 : EReal); abel
  · show (f 2 + f 3) + (f 1 + f 0) = (f 0 + f 1 + f 2 + f 3 : EReal); abel
  · show (f 3 + f 2) + (f 0 + f 1) = (f 0 + f 1 + f 2 + f 3 : EReal); abel

/-- The four shares make the whole product. -/
theorem parts_sum (X : Act) (W : WIn) (i : Fin 64) (j : Fin 2048) :
    ∑ d : Fin 4, part X W d i j = ∑ k : Fin 4096, X (ix2 i k) * W (ix2 k j) := by
  unfold part
  refine Fin.sum_mul_add_congr (fun s k hl => ?_)
  exact congrArg₂ (· * ·)
    (congrArg X (funext fun a => match a with | ⟨0, _⟩ => rfl | ⟨1, _⟩ => rfl))
    (congrArg W (funext fun a => match a with | ⟨0, _⟩ => rfl | ⟨1, _⟩ => rfl))

/-- The sum a device sends on a layer's second hop. -/
def summed (A : Dev nD → Vec Ideal S1x1x64x2048 .bf16) (c : Dev nD) : Vec Ideal S1x1x64x2048 .bf16 := k0_pay6 (A c) (A (p1 c))

section Layer

variable {X : Act} {W : WIn} {A : Dev nD → Vec Ideal S1x1x64x2048 .bf16} (hA : ∀ c i j, A c (cell i j) = part X W c i j)
include hA

/-- What both hops add up to, cut off at zero, is the reference's hidden activations. -/
theorem hidden_eq (c : Dev nD) (i : Fin 64) (h : Fin 2048) :
    max (summed A c (cell i h) + summed A (p2 c) (cell i h)) 0 = hidden X W (ix2 i h) := by
  unfold summed
  rw [pair_apply, pair_apply, hA, hA, hA, hA, hidden_apply, ← parts_sum]
  exact congrArg (max · 0) (around (fun d => part X W d i h) c)

/-- The device's columns of the layer's result. -/
theorem last_eq (V : WOut) (c : Dev nD) :
    k0_pay1 (summed A c) (summed A (p2 c)) (k0_pay14 (woSlot (woutOf c V))) = actOf c (layer X W V) := by
  suffices H : ∀ (i : Fin 64) (k : Fin 1024), k0_pay1 (summed A c) (summed A (p2 c)) (k0_pay14 (woSlot (woutOf c V))) (ix2 i k)
      = actOf c (layer X W V) (ix2 i k) from funext fun j => (eq_ix2 j) ▸ H (j 0) (j 1)
  intro i k
  rw [last_apply]
  rw [actOf_apply, layer_apply]
  refine Finset.sum_congr rfl fun h _ => ?_
  rw [hidden_eq hA c, woutOf_apply]

/-- Its share of the next layer's product. -/
theorem next_eq (V : WOut) (W' : WIn) (c : Dev nD) (i : Fin 64) (j : Fin 2048) :
    k0_pay8 (summed A c) (summed A (p2 c)) (k0_pay5 (woSlot (woutOf c V))) (k0_pay7 (wiSlot (winOf c W'))) (cell i j)
      = part (layer X W V) W' c i j := by
  rw [next_apply]
  unfold part
  rw [← last_eq hA V c]
  simp only [last_apply]

end Layer

/-! ## The kernel's result -/

/-- When the devices hold the blocks of `X`, of three input weights and of three output weights, each ends with its
    columns of the three layers' result. -/
theorem outAt_eq (m : (ℓ : Loc nD τ sig) → Buf (Elt Ideal) ℓ) (X : Act) (W0 W1 W2 : WIn) (V0 V1 V2 : WOut)
    (h0 : ∀ c : Dev nD, m ((c : Thread nD τ).loc main_arg0) = actOf c X)
    (h1 : ∀ c : Dev nD, m ((c : Thread nD τ).loc main_arg1) = winOf c W0)
    (h2 : ∀ c : Dev nD, m ((c : Thread nD τ).loc main_arg2) = winOf c W1)
    (h3 : ∀ c : Dev nD, m ((c : Thread nD τ).loc main_arg3) = winOf c W2)
    (h4 : ∀ c : Dev nD, m ((c : Thread nD τ).loc main_arg4) = woutOf c V0)
    (h5 : ∀ c : Dev nD, m ((c : Thread nD τ).loc main_arg5) = woutOf c V1)
    (h6 : ∀ c : Dev nD, m ((c : Thread nD τ).loc main_arg6) = woutOf c V2) (c : Dev nD) :
    outAt m c = actOf c (layer (layer (layer X W0 V0) W1 V1) W2 V2) := by
  have hx : ∀ c, xin m c = actOf c X := fun c => by
    rw [← h0 c]
    unfold xin
    funext j
    exact congrArg (m ((c : Thread nD τ).loc main_arg0)) (funext fun a => Fin.ext (by
      blk_simp
      have e : ∀ a, win0_0.index (0 : Fin 1) a * win0_0.size a = 0 := by decide +kernel
      exact (congrArg (· + (j a).val) (e a)).trans (Nat.zero_add _)))
  have e0 : ∀ c i j, msg0 m c (cell i j) = part X W0 c i j := fun c i j => by
    unfold msg0
    rw [hx, show wi m 0 c = _ from h1 c, first_apply]
    rfl
  have e2 : ∀ c i j, msg2 m c (cell i j) = part (layer X W0 V0) W1 c i j := fun c i j => by
    have := next_eq e0 V0 W1 c i j
    rw [← h4 c, ← h2 c] at this
    exact this
  have e4 : ∀ c i j, msg4 m c (cell i j) = part (layer (layer X W0 V0) W1 V1) W2 c i j := fun c i j => by
    have := next_eq e2 V1 W2 c i j
    rw [← h5 c, ← h3 c] at this
    exact this
  have := last_eq e4 V2 c
  rw [← h6 c] at this
  exact this

end Cert.KernelIdealProof

end
-- ==== Proof.lean ====
/-
# The claims

Three frames (the kernel as printed, its idealization, the reference), the idealization of the kernel, and the value: at
the ideal instance each device ends with its columns of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs, keeps its arguments and leaves every counter at zero. -/
theorem frame_kernel : Cert.quiescent_Kernel := fun m g _ =>
  (θ_run _ _ _).mono (fun _ h => ⟨fun c => (h.1 c).2, h.2⟩) (Cert.KernelProof.run_ends m g)

/-- So does its idealization. -/
theorem frame_ideal : Cert.quiescent_KernelIdeal := fun m g _ =>
  (θ_run _ _ _).mono (fun _ h => ⟨fun c => (h.1 c).2, h.2⟩) (Cert.KernelIdealProof.run_ends m g)

/-- So does the reference, which declares no counter. -/
theorem frame_reference : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

open Cert.KernelIdealProof in
/-- On blocks of the reference's arguments, each device ends with its block of the reference's result. -/
theorem value : Cert.algebraic_KernelIdeal_ReferenceIdeal := fun m g m' g' _ hm => by
  refine ⟨layer (layer (layer (m' (((0 : Dev Cert.ReferenceIdeal.nD).tc : Thread Cert.ReferenceIdeal.nD Cert.ReferenceIdeal.τ).loc Cert.ReferenceIdeal.main_arg0)) _ _) _ _) _ _,
    (θ_run _ _ _).mono (fun r h c => ?_) (run_ends m g), (θ_run _ _ _).mono (fun r h => h 0) (Cert.ReferenceIdeal.Value.run m' g')⟩
  refine ⟨(h.1 c).1.trans ?_, (h.1 c).2⟩
  exact outAt_eq m _ _ _ _ _ _ _ (fun c => (hm c).1) (fun c => (hm c).2.1) (fun c => (hm c).2.2.1) (fun c => (hm c).2.2.2.1)
    (fun c => (hm c).2.2.2.2.1) (fun c => (hm c).2.2.2.2.2.1) (fun c => (hm c).2.2.2.2.2.2) c

theorem claim : Cert.Claim := ⟨Cert.Kernel.Gen.facts, Cert.KernelIdeal.Gen.facts, Cert.ReferenceIdeal.Gen.facts,
  frame_kernel, frame_ideal, frame_reference, trivial, value⟩

end Cert.Proof

end
